-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4x64x1024 : Shape := ⟨3, ![4, 64, 1024]⟩
abbrev S64x8 : Shape := ⟨2, ![64, 8]⟩
abbrev S8 : Shape := ⟨1, ![8]⟩
abbrev S8x64 : Shape := ⟨2, ![8, 64]⟩
abbrev S64 : Shape := ⟨1, ![64]⟩
abbrev S1 : Shape := ⟨1, ![1]⟩
abbrev S_ : Shape := ⟨0, ![]⟩
abbrev S4x1024 : Shape := ⟨2, ![4, 1024]⟩

class Facts : Prop where
  reducesTo_S4x64x1024_S4x1024_d1 : S4x64x1024.ReducesTo [1] S4x1024
  h_S_ : 0 < S_.numel
  bcast_S_S4x64x1024 : S_.BroadcastsInDim S4x64x1024 (![] : Fin 0 → Fin S4x64x1024.rank)
  bcast_S_S64x8 : S_.BroadcastsInDim S64x8 (![] : Fin 0 → Fin S64x8.rank)
  bcast_S_S8 : S_.BroadcastsInDim S8 (![] : Fin 0 → Fin S8.rank)
  bcast_S_S8x64 : S_.BroadcastsInDim S8x64 (![] : Fin 0 → Fin S8x64.rank)
  bcast_S_S64 : S_.BroadcastsInDim S64 (![] : Fin 0 → Fin S64.rank)
  bcast_S_S4x1024 : S_.BroadcastsInDim S4x1024 (![] : Fin 0 → Fin S4x1024.rank)

variable [Facts]

def fn_part1 {F : FTy → Type} [FloatOps F] (main_v1 : FVec F S4x1024 .f32) (main_v4 : IVec S4x64x1024 1) (main_v7 : IVec S64x8 1) (main_v10 : IVec S8 1) (main_v13 : IVec S8x64 1) (main_v16 : IVec S64 1) (main_cst_5 : FVec F S_ .f32) : IVec S4x64x1024 1 × IVec S64x8 1 × IVec S8 1 × IVec S8x64 1 × IVec S64 1 × IVec S4x1024 1 :=
  let main_v17 : FVec F S4x1024 .f32 := broadcastInDim S4x1024 ![] bcast_S_S4x1024 main_cst_5
  let main_v18 : IVec S4x1024 1 := cmpf .oeq main_v1 main_v17
  let main_cst_6 : FVec F S_ .f32 := constant S_ .f32 0x322BCC77#32
  let main_v19 : FVec F S4x1024 .f32 := broadcastInDim S4x1024 ![] bcast_S_S4x1024 main_cst_6
  let main_v20 : IVec S4x1024 1 := cmpf .oge main_v1 main_v19
  let main_v21 : IVec S4x1024 1 := ori main_v18 main_v20
  (main_v4, main_v7, main_v10, main_v13, main_v16, main_v21)

def fn {F : FTy → Type} [FloatOps F] (main_arg0 : FVec F S4x64x1024 .f32) (main_arg1 : FVec F S64x8 .f32) (main_arg2 : FVec F S8 .f32) (main_arg3 : FVec F S8x64 .f32) (main_arg4 : FVec F S64 .f32) (main_arg5 : FVec F S1 .f32) : IVec S4x64x1024 1 × IVec S64x8 1 × IVec S8 1 × IVec S8x64 1 × IVec S64 1 × IVec S4x1024 1 :=
  let main_v0 : FVec F S4x64x1024 .f32 := mulf main_arg0 main_arg0
  let main_cst : FVec F S_ .f32 := constant S_ .f32 0x00000000#32
  let main_v1 : FVec F S4x1024 .f32 := (fun x v => Host.reduceAdd x v reducesTo_S4x64x1024_S4x1024_d1 h_S_) main_v0 main_cst
  let main_v2 : FVec F S4x64x1024 .f32 := Host.absf main_arg0
  let main_cst_0 : FVec F S_ .f32 := constant S_ .f32 0x7F800000#32
  let main_v3 : FVec F S4x64x1024 .f32 := broadcastInDim S4x64x1024 ![] bcast_S_S4x64x1024 main_cst_0
  let main_v4 : IVec S4x64x1024 1 := cmpf .olt main_v2 main_v3
  let main_v5 : FVec F S64x8 .f32 := Host.absf main_arg1
  let main_cst_1 : FVec F S_ .f32 := constant S_ .f32 0x7F800000#32
  let main_v6 : FVec F S64x8 .f32 := broadcastInDim S64x8 ![] bcast_S_S64x8 main_cst_1
  let main_v7 : IVec S64x8 1 := cmpf .olt main_v5 main_v6
  let main_v8 : FVec F S8 .f32 := Host.absf main_arg2
  let main_cst_2 : FVec F S_ .f32 := constant S_ .f32 0x7F800000#32
  let main_v9 : FVec F S8 .f32 := broadcastInDim S8 ![] bcast_S_S8 main_cst_2
  let main_v10 : IVec S8 1 := cmpf .olt main_v8 main_v9
  let main_v11 : FVec F S8x64 .f32 := Host.absf main_arg3
  let main_cst_3 : FVec F S_ .f32 := constant S_ .f32 0x7F800000#32
  let main_v12 : FVec F S8x64 .f32 := broadcastInDim S8x64 ![] bcast_S_S8x64 main_cst_3
  let main_v13 : IVec S8x64 1 := cmpf .olt main_v11 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  let main_cst_5 : FVec F S_ .f32 := constant S_ .f32 0x00000000#32
  fn_part1 (F := F) main_v1 main_v4 main_v7 main_v10 main_v13 main_v16 main_cst_5
-- ==== Kernel.lean ====
abbrev S4x64x1024 : Shape := ⟨3, ![4, 64, 1024]⟩
abbrev S64x8 : Shape := ⟨2, ![64, 8]⟩
abbrev S8 : Shape := ⟨1, ![8]⟩
abbrev S8x64 : Shape := ⟨2, ![8, 64]⟩
abbrev S64 : Shape := ⟨1, ![64]⟩
abbrev S1 : Shape := ⟨1, ![1]⟩
abbrev S640x64 : Shape := ⟨2, ![640, 64]⟩
abbrev S8x1 : Shape := ⟨2, ![8, 1]⟩
abbrev S64x1 : Shape := ⟨2, ![64, 1]⟩
abbrev S1x1 : Shape := ⟨2, ![1, 1]⟩
abbrev S1x64x1024 : Shape := ⟨3, ![1, 64, 1024]⟩
abbrev S64x1024 : Shape := ⟨2, ![64, 1024]⟩
abbrev S1024 : Shape := ⟨1, ![1024]⟩
abbrev S1x1024 : Shape := ⟨2, ![1, 1024]⟩
abbrev S1024x1024 : Shape := ⟨2, ![1024, 1024]⟩
abbrev S8x1024 : Shape := ⟨2, ![8, 1024]⟩
abbrev S9x1024 : Shape := ⟨2, ![9, 1024]⟩
abbrev S64x1023 : Shape := ⟨2, ![64, 1023]⟩
abbrev S64x2 : Shape := ⟨2, ![64, 2]⟩
abbrev S64x1022 : Shape := ⟨2, ![64, 1022]⟩
abbrev S64x4 : Shape := ⟨2, ![64, 4]⟩
abbrev S64x1020 : Shape := ⟨2, ![64, 1020]⟩
abbrev S64x1016 : Shape := ⟨2, ![64, 1016]⟩
abbrev S64x16 : Shape := ⟨2, ![64, 16]⟩
abbrev S64x1008 : Shape := ⟨2, ![64, 1008]⟩
abbrev S64x32 : Shape := ⟨2, ![64, 32]⟩
abbrev S64x992 : Shape := ⟨2, ![64, 992]⟩
abbrev S64x64 : Shape := ⟨2, ![64, 64]⟩
abbrev S64x960 : Shape := ⟨2, ![64, 960]⟩
abbrev S64x128 : Shape := ⟨2, ![64, 128]⟩
abbrev S64x896 : Shape := ⟨2, ![64, 896]⟩
abbrev S64x256 : Shape := ⟨2, ![64, 256]⟩
abbrev S64x768 : Shape := ⟨2, ![64, 768]⟩
abbrev S64x512 : Shape := ⟨2, ![64, 512]⟩
abbrev S640x1024 : Shape := ⟨2, ![640, 1024]⟩
abbrev S10x64x1024 : Shape := ⟨3, ![10, 64, 1024]⟩
abbrev S10x1024 : Shape := ⟨2, ![10, 1024]⟩
abbrev S4x1024 : Shape := ⟨2, ![4, 1024]⟩
abbrev S4 : Shape := ⟨1, ![4]⟩
abbrev S4x1 : Shape := ⟨2, ![4, 1]⟩
abbrev S64x10 : Shape := ⟨2, ![64, 10]⟩
abbrev S10 : Shape := ⟨1, ![10]⟩
abbrev S10x1 : Shape := ⟨2, ![10, 1]⟩

abbrev nBuf : Space → Nat
  | .hbm => 11
  | .vmem => 8
  | .smem => 0
  | _ => 0

abbrev bufTy : (tb : Table) → Fin (tcTables nBuf tb) → BufTy
  | .hbm, ⟨0, _⟩ => ⟨S4x64x1024, .f32⟩
  | .hbm, ⟨1, _⟩ => ⟨S64x8, .f32⟩
  | .hbm, ⟨2, _⟩ => ⟨S8, .f32⟩
  | .hbm, ⟨3, _⟩ => ⟨S8x64, .f32⟩
  | .hbm, ⟨4, _⟩ => ⟨S64, .f32⟩
  | .hbm, ⟨5, _⟩ => ⟨S1, .f32⟩
  | .hbm, ⟨6, _⟩ => ⟨S640x64, .f32⟩
  | .hbm, ⟨7, _⟩ => ⟨S8x1, .f32⟩
  | .hbm, ⟨8, _⟩ => ⟨S64x1, .f32⟩
  | .hbm, ⟨9, _⟩ => ⟨S1x1, .f32⟩
  | .hbm, ⟨10, _⟩ => ⟨S4x64x1024, .f32⟩
  | .local _ .vmem, ⟨0, _⟩ => ⟨S4x64x1024, .f32⟩
  | .local _ .vmem, ⟨1, _⟩ => ⟨S64x8, .f32⟩
  | .local _ .vmem, ⟨2, _⟩ => ⟨S8x1, .f32⟩
  | .local _ .vmem, ⟨3, _⟩ => ⟨S8x64, .f32⟩
  | .local _ .vmem, ⟨4, _⟩ => ⟨S64x1, .f32⟩
  | .local _ .vmem, ⟨5, _⟩ => ⟨S1x1, .f32⟩
  | .local _ .vmem, ⟨6, _⟩ => ⟨S640x64, .f32⟩
  | .local _ .vmem, ⟨7, _⟩ => ⟨S4x64x1024, .f32⟩
  | _, _ => ⟨S4x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S640x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4x64x1024 : Shape := ⟨3, ![4, 64, 1024]⟩
abbrev S64x8 : Shape := ⟨2, ![64, 8]⟩
abbrev S8 : Shape := ⟨1, ![8]⟩
abbrev S8x64 : Shape := ⟨2, ![8, 64]⟩
abbrev S64 : Shape := ⟨1, ![64]⟩
abbrev S1 : Shape := ⟨1, ![1]⟩
abbrev S64x10 : Shape := ⟨2, ![64, 10]⟩
abbrev S4x1024x64 : Shape := ⟨3, ![4, 1024, 64]⟩
abbrev S_ : Shape := ⟨0, ![]⟩
abbrev S4x1024 : Shape := ⟨2, ![4, 1024]⟩
abbrev S4x1024x1024 : Shape := ⟨3, ![4, 1024, 1024]⟩
abbrev S4x1024x1 : Shape := ⟨3, ![4, 1024, 1]⟩
abbrev S4x1x1024 : Shape := ⟨3, ![4, 1, 1024]⟩
abbrev S1024x1024 : Shape := ⟨2, ![1024, 1024]⟩
abbrev S4x1024x8 : Shape := ⟨3, ![4, 1024, 8]⟩
abbrev S1x1x8 : Shape := ⟨3, ![1, 1, 8]⟩
abbrev S1x1x64 : Shape := ⟨3, ![1, 1, 64]⟩
abbrev S64x10x1 : Shape := ⟨3, ![64, 10, 1]⟩
abbrev S4x1024x64x10 : Shape := ⟨4, ![4, 1024, 64, 10]⟩
abbrev S4x1024x10 : Shape := ⟨3, ![4, 1024, 10]⟩
abbrev S4x10 : Shape := ⟨2, ![4, 10]⟩
abbrev S4x10x1 : Shape := ⟨3, ![4, 10, 1]⟩
abbrev S1x1x1 : Shape := ⟨3, ![1, 1, 1]⟩
abbrev S4x10x64 : Shape := ⟨3, ![4, 10, 64]⟩
abbrev S4x10x1024 : Shape := ⟨3, ![4, 10, 1024]⟩
abbrev S4 : Shape := ⟨1, ![4]⟩
abbrev S4x1 : Shape := ⟨2, ![4, 1]⟩
abbrev S4x10x2 : Shape := ⟨3, ![4, 10, 2]⟩

abbrev nBuf : Space → Nat
  | .hbm => 204
  | .vmem => 0
  | .smem => 0
  | _ => 0

abbrev hbmTy0_0 (i : Nat) : BufTy := match i % 128 with
  | 0 => ⟨S4x64x1024, .f32⟩
  | 1 => ⟨S64x8, .f32⟩
  | 2 => ⟨S8, .f32⟩
  | 3 => ⟨S8x64, .f32⟩
  | 4 => ⟨S64, .f32⟩
  | 5 => ⟨S1, .f32⟩
  | 6 => ⟨S64x10, .i32⟩
  | 7 => ⟨S64x10, .i1⟩
  | 8 => ⟨S4x1024x64, .f32⟩
  | 9 => ⟨S4x1024x64, .f32⟩
  | 10 => ⟨S_, .f32⟩
  | 11 => ⟨S4x1024, .f32⟩
  | 12 => ⟨S4x1024, .f32⟩
  | 13 => ⟨S4x1024x1024, .f32⟩
  | 14 => ⟨S4x1024x1, .f32⟩
  | 15 => ⟨S4x1x1024, .f32⟩
  | 16 => ⟨S4x1024x1024, .f32⟩
  | 17 => ⟨S4x1024x1024, .f32⟩
  | 18 => ⟨S4x1024x1024, .f32⟩
  | 19 => ⟨S_, .f32⟩
  | 20 => ⟨S4x1024x1024, .f32⟩
  | 21 => ⟨S4x1024x1024, .f32⟩
  | 22 => ⟨S4x1024x1024, .f32⟩
  | 23 => ⟨S_, .f32⟩
  | 24 => ⟨S4x1024x1024, .f32⟩
  | 25 => ⟨S4x1024x1024, .i1⟩
  | 26 => ⟨S4x1024x1024, .i32⟩
  | 27 => ⟨S4x1024x1024, .i32⟩
  | 28 => ⟨S4x1024x1024, .i1⟩
  | 29 => ⟨S4x1024x1024, .i32⟩
  | 30 => ⟨S4x1024x1024, .i32⟩
  | 31 => ⟨S4x1024x1024, .i32⟩
  | 32 => ⟨S4x1024x1024, .i32⟩
  | 33 => ⟨S4x1024x1024, .i32⟩
  | 34 => ⟨S_, .f32⟩
  | 35 => ⟨S4x1024, .f32⟩
  | 36 => ⟨S_, .f32⟩
  | 37 => ⟨S4x1024, .f32⟩
  | 38 => ⟨S4x1024, .f32⟩
  | 39 => ⟨S4x1024, .f32⟩
  | 40 => ⟨S_, .f32⟩
  | 41 => ⟨S4x1024, .f32⟩
  | 42 => ⟨S4x1024, .i1⟩
  | 43 => ⟨S_, .f32⟩
  | 44 => ⟨S_, .f32⟩
  | 45 => ⟨S4x1024, .f32⟩
  | 46 => ⟨S4x1024, .f32⟩
  | 47 => ⟨S_, .f32⟩
  | 48 => ⟨S4x1024, .f32⟩
  | 49 => ⟨S1024x1024, .i32⟩
  | 50 => ⟨S1024x1024, .i32⟩
  | 51 => ⟨S_, .i32⟩
  | 52 => ⟨S1024x1024, .i32⟩
  | 53 => ⟨S1024x1024, .i32⟩
  | 54 => ⟨S1024x1024, .i1⟩
  | 55 => ⟨S4x1024x1, .f32⟩
  | 56 => ⟨S_, .f32⟩
  | 57 => ⟨S4x1024x1024, .f32⟩
  | 58 => ⟨S1024x1024, .f32⟩
  | 59 => ⟨S4x1024x1024, .i1⟩
  | 60 => ⟨S4x1024x1024, .f32⟩
  | 61 => ⟨S4x1024x1024, .f32⟩
  | 62 => ⟨S4x1024x64, .f32⟩
  | 63 => ⟨S1024x1024, .i32⟩
  | 64 => ⟨S1024x1024, .i32⟩
  | 65 => ⟨S_, .i32⟩
  | 66 => ⟨S1024x1024, .i32⟩
  | 67 => ⟨S1024x1024, .i32⟩
  | 68 => ⟨S1024x1024, .i1⟩
  | 69 => ⟨S1024x1024, .f32⟩
  | 70 => ⟨S4x1024x1024, .f32⟩
  | 71 => ⟨S4x1024x1024, .f32⟩
  | 72 => ⟨S4x1024x1024, .f32⟩
  | 73 => ⟨S_, .f32⟩
  | 74 => ⟨S4x1024, .f32⟩
  | 75 => ⟨S_, .f32⟩
  | 76 => ⟨S4x1024, .f32⟩
  | 77 => ⟨S4x1024, .f32⟩
  | 78 => ⟨S4x1024, .f32⟩
  | 79 => ⟨S_, .f32⟩
  | 80 => ⟨S4x1024, .f32⟩
  | 81 => ⟨S4x1024, .i1⟩
  | 82 => ⟨S_, .f32⟩
  | 83 => ⟨S_, .f32⟩
  | 84 => ⟨S4x1024, .f32⟩
  | 85 => ⟨S4x1024, .f32⟩
  | 86 => ⟨S_, .f32⟩
  | 87 => ⟨S4x1024, .f32⟩
  | 88 => ⟨S1024x1024, .i32⟩
  | 89 => ⟨S1024x1024, .i32⟩
  | 90 => ⟨S_, .i32⟩
  | 91 => ⟨S1024x1024, .i32⟩
  | 92 => ⟨S1024x1024, .i32⟩
  | 93 => ⟨S1024x1024, .i1⟩
  | 94 => ⟨S4x1024x1, .f32⟩
  | 95 => ⟨S_, .f32⟩
  | 96 => ⟨S4x1024x1024, .f32⟩
  | 97 => ⟨S1024x1024, .f32⟩
  | 98 => ⟨S4x1024x1024, .i1⟩
  | 99 => ⟨S4x1024x1024, .f32⟩
  | 100 => ⟨S4x1024x1024, .f32⟩
  | 101 => ⟨S4x1024x1024, .f32⟩
  | 102 => ⟨S4x1024x8, .f32⟩
  | 103 => ⟨S4x1024x8, .f32⟩
  | 104 => ⟨S1x1x8, .f32⟩
  | 105 => ⟨S4x1024x8, .f32⟩
  | 106 => ⟨S4x1024x8, .f32⟩
  | 107 => ⟨S_, .f32⟩
  | 108 => ⟨S4x1024x8, .f32⟩
  | 109 => ⟨S4x1024x8, .f32⟩
  | 110 => ⟨S4x1024x64, .f32⟩
  | 111 => ⟨S4x1024x64, .f32⟩
  | 112 => ⟨S1x1x64, .f32⟩
  | 113 => ⟨S4x1024x64, .f32⟩
  | 114 => ⟨S4x1024x64, .f32⟩
  | 115 => ⟨S_, .i32⟩
  | 116 => ⟨S64x10, .i32⟩
  | 117 => ⟨S64x10, .i32⟩
  | 118 => ⟨S64x10, .i32⟩
  | 119 => ⟨S64x10x1, .i32⟩
  | 120 => ⟨S4x1024x64x10, .f32⟩
  | 121 => ⟨S4x1024x10, .f32⟩
  | 122 => ⟨S_, .f32⟩
  | 123 => ⟨S4x1024, .f32⟩
  | 124 => ⟨S_, .f32⟩
  | 125 => ⟨S4x1024, .f32⟩
  | 126 => ⟨S_, .f32⟩
  | 127 => ⟨S4x1024, .f32⟩
  | _ => ⟨S4x64x1024, .f32⟩

abbrev hbmTy0_1 (i : Nat) : BufTy := match i % 128 with
  | 0 => ⟨S4x1024, .f32⟩
  | 1 => ⟨S4x1024, .f32⟩
  | 2 => ⟨S4x10, .f32⟩
  | 3 => ⟨S4x10, .i32⟩
  | 4 => ⟨S4x10x1, .i32⟩
  | 5 => ⟨S_, .i32⟩
  | 6 => ⟨S4x10x1, .i32⟩
  | 7 => ⟨S4x10x1, .i1⟩
  | 8 => ⟨S_, .i32⟩
  | 9 => ⟨S4x10x1, .i32⟩
  | 10 => ⟨S4x10x1, .i32⟩
  | 11 => ⟨S4x10x1, .i32⟩
  | 12 => ⟨S1, .i32⟩
  | 13 => ⟨S_, .i32⟩
  | 14 => ⟨S4x10x1, .i32⟩
  | 15 => ⟨S4x10x1, .i1⟩
  | 16 => ⟨S1x1x1, .i32⟩
  | 17 => ⟨S4x10x1, .i32⟩
  | 18 => ⟨S4x10x1, .i1⟩
  | 19 => ⟨S4x10x1, .i1⟩
  | 20 => ⟨S_, .i1⟩
  | 21 => ⟨S4x10, .i1⟩
  | 22 => ⟨S4x10x64, .f32⟩
  | 23 => ⟨S4x10x64, .i1⟩
  | 24 => ⟨S_, .f32⟩
  | 25 => ⟨S4x10x64, .f32⟩
  | 26 => ⟨S4x10x64, .f32⟩
  | 27 => ⟨S4x64x1024, .f32⟩
  | 28 => ⟨S4x10x1024, .f32⟩
  | 29 => ⟨S_, .f32⟩
  | 30 => ⟨S4x10x1024, .f32⟩
  | 31 => ⟨S4x10x1024, .f32⟩
  | 32 => ⟨S_, .f32⟩
  | 33 => ⟨S_, .f32⟩
  | 34 => ⟨S4x1024x64, .f32⟩
  | 35 => ⟨S_, .f32⟩
  | 36 => ⟨S4x10, .f32⟩
  | 37 => ⟨S_, .f32⟩
  | 38 => ⟨S4x10, .f32⟩
  | 39 => ⟨S4x10, .f32⟩
  | 40 => ⟨S4x10x1, .f32⟩
  | 41 => ⟨S4x10x1024, .f32⟩
  | 42 => ⟨S4x10x1024, .f32⟩
  | 43 => ⟨S4x10x1024, .f32⟩
  | 44 => ⟨S_, .f32⟩
  | 45 => ⟨S4x10, .f32⟩
  | 46 => ⟨S4x10x1, .f32⟩
  | 47 => ⟨S4x10x1024, .f32⟩
  | 48 => ⟨S4x10x1024, .f32⟩
  | 49 => ⟨S4x10x64, .f32⟩
  | 50 => ⟨S4, .i32⟩
  | 51 => ⟨S4x1, .i32⟩
  | 52 => ⟨S_, .i32⟩
  | 53 => ⟨S4x1, .i32⟩
  | 54 => ⟨S4x1, .i1⟩
  | 55 => ⟨S_, .i32⟩
  | 56 => ⟨S4x1, .i32⟩
  | 57 => ⟨S4x1, .i32⟩
  | 58 => ⟨S4x1, .i32⟩
  | 59 => ⟨S_, .i32⟩
  | 60 => ⟨S4x10, .i32⟩
  | 61 => ⟨S4x10, .i1⟩
  | 62 => ⟨S_, .i32⟩
  | 63 => ⟨S4x10, .i32⟩
  | 64 => ⟨S4x10, .i32⟩
  | 65 => ⟨S4x10, .i32⟩
  | 66 => ⟨S4x10, .i32⟩
  | 67 => ⟨S4x10x1, .i32⟩
  | 68 => ⟨S4x10x1, .i32⟩
  | 69 => ⟨S4x10x2, .i32⟩
  | 70 => ⟨S4x1024x64, .f32⟩
  | 71 => ⟨S4x64x1024, .f32⟩
  | 72 => ⟨S1x1x1, .f32⟩
  | 73 => ⟨S4x64x1024, .f32⟩
  | 74 => ⟨S4x64x1024, .f32⟩
  | 75 => ⟨S4x64x1024, .f32⟩
  | _ => ⟨S4x64x1024, .f32⟩

abbrev hbmTy (i : Nat) : BufTy := match i / 128 with
  | 0 => hbmTy0_0 i
  | 1 => hbmTy0_1 i
  | _ => ⟨S4x64x1024, .f32⟩

abbrev bufTy : (tb : Table) → Fin (tcTables nBuf tb) → BufTy
  | .hbm, ⟨i, _⟩ => hbmTy i
  | _, _ => ⟨S4x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_call0_v0 : Ref sig .tc := ⟨.hbm, 39, rfl⟩
abbrev main_call0_cst : Ref sig .tc := ⟨.hbm, 40, rfl⟩
abbrev main_call0_v1 : Ref sig .tc := ⟨.hbm, 41, rfl⟩
abbrev main_v26 : Ref sig .tc := ⟨.hbm, 42, rfl⟩
abbrev main_cst_5 : Ref sig .tc := ⟨.hbm, 43, rfl⟩
abbrev main_call1_v0 : Ref sig .tc := ⟨.hbm, 44, rfl⟩
abbrev main_call1_v1 : Ref sig .tc := ⟨.hbm, 45, rfl⟩
abbrev main_v27 : Ref sig .tc := ⟨.hbm, 46, rfl⟩
abbrev main_call2_cst : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_c : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_cst_0 : Ref sig .tc := ⟨.hbm, 56, rfl⟩
abbrev main_call2_call0_v0 : Ref sig .tc := ⟨.hbm, 57, rfl⟩
abbrev main_call2_call0_v1 : Ref sig .tc := ⟨.hbm, 58, rfl⟩
abbrev main_call2_call0_v2 : Ref sig .tc := ⟨.hbm, 59, rfl⟩
abbrev main_call2_call0_v3 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_6 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_7 : Ref sig .tc := ⟨.hbm, 73, rfl⟩
abbrev main_v39 : Ref sig .tc := ⟨.hbm, 74, rfl⟩
abbrev main_cst_8 : Ref sig .tc := ⟨.hbm, 75, rfl⟩
abbrev main_v40 : Ref sig .tc := ⟨.hbm, 76, rfl⟩
abbrev main_v41 : Ref sig .tc := ⟨.hbm, 77, rfl⟩
abbrev main_call3_v0 : Ref sig .tc := ⟨.hbm, 78, rfl⟩
abbrev main_call3_cst : Ref sig .tc := ⟨.hbm, 79, rfl⟩
abbrev main_call3_v1 : Ref sig .tc := ⟨.hbm, 80, rfl⟩
abbrev main_v42 : Ref sig .tc := ⟨.hbm, 81, rfl⟩
abbrev main_cst_9 : Ref sig .tc := ⟨.hbm, 82, rfl⟩
abbrev main_call4_v0 : Ref sig .tc := ⟨.hbm, 83, rfl⟩
abbrev main_call4_v1 : Ref sig .tc := ⟨.hbm, 84, rfl⟩
abbrev main_v43 : Ref sig .tc := ⟨.hbm, 85, rfl⟩
abbrev main_call5_cst : Ref sig .tc := ⟨.hbm, 86, rfl⟩
abbrev main_call5_v0 : Ref sig .tc := ⟨.hbm, 87, rfl⟩
abbrev main_call5_v1 : Ref sig .tc := ⟨.hbm, 88, rfl⟩
abbrev main_call5_v2 : Ref sig .tc := ⟨.hbm, 89, rfl⟩
abbrev main_call5_c : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_v6 : Ref sig .tc := ⟨.hbm, 94, rfl⟩
abbrev main_call5_cst_0 : Ref sig .tc := ⟨.hbm, 95, rfl⟩
abbrev main_call5_call0_v0 : Ref sig .tc := ⟨.hbm, 96, rfl⟩
abbrev main_call5_call0_v1 : Ref sig .tc := ⟨.hbm, 97, rfl⟩
abbrev main_call5_call0_v2 : Ref sig .tc := ⟨.hbm, 98, rfl⟩
abbrev main_call5_call0_v3 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_call6_cst : Ref sig .tc := ⟨.hbm, 107, rfl⟩
abbrev main_call6_v0 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_c_10 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_cst_11 : Ref sig .tc := ⟨.hbm, 122, rfl⟩
abbrev main_v63 : Ref sig .tc := ⟨.hbm, 123, rfl⟩
abbrev main_cst_12 : Ref sig .tc := ⟨.hbm, 124, rfl⟩
abbrev main_v64 : Ref sig .tc := ⟨.hbm, 125, rfl⟩
abbrev main_cst_13 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_values : Ref sig .tc := ⟨.hbm, 130, rfl⟩
abbrev main_indices : Ref sig .tc := ⟨.hbm, 131, rfl⟩
abbrev main_v68 : Ref sig .tc := ⟨.hbm, 132, rfl⟩
abbrev main_call7_c : Ref sig .tc := ⟨.hbm, 133, rfl⟩
abbrev main_call7_v0 : Ref sig .tc := ⟨.hbm, 134, rfl⟩
abbrev main_call7_v1 : Ref sig .tc := ⟨.hbm, 135, rfl⟩
abbrev main_call7_c_0 : Ref sig .tc := ⟨.hbm, 136, rfl⟩
abbrev main_call7_v2 : Ref sig .tc := ⟨.hbm, 137, rfl⟩
abbrev main_call7_v3 : Ref sig .tc := ⟨.hbm, 138, rfl⟩
abbrev main_call7_v4 : Ref sig .tc := ⟨.hbm, 139, rfl⟩
abbrev main_call7_c_1 : Ref sig .tc := ⟨.hbm, 140, rfl⟩
abbrev main_call7_c_2 : Ref sig .tc := ⟨.hbm, 141, rfl⟩
abbrev main_call7_v5 : Ref sig .tc := ⟨.hbm, 142, rfl⟩
abbrev main_call7_v6 : Ref sig .tc := ⟨.hbm, 143, rfl⟩
abbrev main_call7_v7 : Ref sig .tc := ⟨.hbm, 144, rfl⟩
abbrev main_call7_v8 : Ref sig .tc := ⟨.hbm, 145, rfl⟩
abbrev main_call7_v9 : Ref sig .tc := ⟨.hbm, 146, rfl⟩
abbrev main_call7_v10 : Ref sig .tc := ⟨.hbm, 147, rfl⟩
abbrev main_call7_c_3 : Ref sig .tc := ⟨.hbm, 148, rfl⟩
abbrev main_call7_v11 : Ref sig .tc := ⟨.hbm, 149, rfl⟩
abbrev main_call7_v12 : Ref sig .tc := ⟨.hbm, 150, rfl⟩
abbrev main_call7_v13 : Ref sig .tc := ⟨.hbm, 151, rfl⟩
abbrev main_call7_cst : Ref sig .tc := ⟨.hbm, 152, rfl⟩
abbrev main_call7_v14 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_cst_14 : Ref sig .tc := ⟨.hbm, 157, rfl⟩
abbrev main_v72 : Ref sig .tc := ⟨.hbm, 158, rfl⟩
abbrev main_v73 : Ref sig .tc := ⟨.hbm, 159, rfl⟩
abbrev main_call8_call0_cst : Ref sig .tc := ⟨.hbm, 160, rfl⟩
abbrev main_call8_call0_v0 : Ref sig .tc := ⟨.hbm, 161, rfl⟩
abbrev main_v74 : Ref sig .tc := ⟨.hbm, 162, rfl⟩
abbrev main_cst_15 : Ref sig .tc := ⟨.hbm, 163, rfl⟩
abbrev main_v75 : Ref sig .tc := ⟨.hbm, 164, rfl⟩
abbrev main_cst_16 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_cst_17 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_c_18 : Ref sig .tc := ⟨.hbm, 180, rfl⟩
abbrev main_v89 : Ref sig .tc := ⟨.hbm, 181, rfl⟩
abbrev main_v90 : Ref sig .tc := ⟨.hbm, 182, rfl⟩
abbrev main_c_19 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_c_20 : Ref sig .tc := ⟨.hbm, 187, rfl⟩
abbrev main_v94 : Ref sig .tc := ⟨.hbm, 188, rfl⟩
abbrev main_v95 : Ref sig .tc := ⟨.hbm, 189, rfl⟩
abbrev main_c_21 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩

abbrev nD : Nat := 1
abbrev τ : Topo := Topo.v7x

variable {F : FTy → Type} [FloatOps F]
-- ==== Proof.Select.lean ====
/- The ten largest entries of a row of extended reals, taken one after another: the largest first, the least position
   among equals. A stable sort in descending order puts the same positions first, in the same order. -/
module

public import Idealize.ShloMosaic.Lib.SortPrefix
public import Idealize.ShloMosaic.PureOps.Ideal

@[expose] public section

noncomputable section

namespace Cert.Select

open Idealize.ShloMosaic

/-- The positions at which a row is largest. -/
def tops (w : Fin 1024 → EReal) : Finset (Fin 1024) := Finset.univ.filter fun n => ∀ m, w m ≤ w n

theorem tops_nonempty (w : Fin 1024 → EReal) : (tops w).Nonempty := by
  obtain ⟨n, hn⟩ := Finite.exists_max w
  exact ⟨n, by simp [tops]; exact hn⟩

/-- The least position at which a row is largest. -/
def pick (w : Fin 1024 → EReal) : Fin 1024 := (tops w).min' (tops_nonempty w)

theorem le_pick (w : Fin 1024 → EReal) (m : Fin 1024) : w m ≤ w (pick w) := by
  have h := Finset.min'_mem (tops w) (tops_nonempty w)
  simp only [tops, Finset.mem_filter, Finset.mem_univ, true_and] at h
  exact h m

theorem pick_le (w : Fin 1024 → EReal) (n : Fin 1024) (h : ∀ m, w m ≤ w n) : pick w ≤ n :=
  Finset.min'_le _ _ (by simp only [tops, Finset.mem_filter, Finset.mem_univ, true_and]; exact h)

/-- The row with its picked entry taken away. -/
def drop (w : Fin 1024 → EReal) : Fin 1024 → EReal := fun n => if n = pick w then ⊥ else w n

/-- The row after `r` entries have been taken away. -/
def dropN (w : Fin 1024 → EReal) : ℕ → Fin 1024 → EReal
  | 0 => w
  | r + 1 => drop (dropN w r)

/-- The position taken at round `r`. -/
def sel (w : Fin 1024 → EReal) (r : ℕ) : Fin 1024 := pick (dropN w r)

/-- After `r` rounds a position holds what it held, unless one of the rounds took it. -/
theorem dropN_eq (w : Fin 1024 → EReal) (r : ℕ) (n : Fin 1024) :
    dropN w r n = if ∃ i < r, sel w i = n then ⊥ else w n := by
  induction r with
  | zero => simp [dropN]
  | succ r ih =>
    show (if n = sel w r then ⊥ else dropN w r n) = _
    by_cases h : n = sel w r
    · rw [if_pos h, if_pos ⟨r, Nat.lt_succ_self r, h.symm⟩]
    · rw [if_neg h, ih]
      by_cases h' : ∃ i < r, sel w i = n
      · obtain ⟨i, hi, e⟩ := h'
        rw [if_pos ⟨i, hi, e⟩, if_pos ⟨i, by omega, e⟩]
      · rw [if_neg h', if_neg]
        rintro ⟨i, hi, e⟩
        rcases Nat.lt_succ_iff_lt_or_eq.mp hi with hi | rfl
        · exact h' ⟨i, hi, e⟩
        · exact h e.symm

/-- A position no earlier round took does not go before the one round `r` takes. -/
def before (w : Fin 1024 → EReal) (p q : Fin 1024) : Bool :=
  decide (w q < w p) || (decide (w p = w q) && decide (p < q))

variable (w : Fin 1024 → EReal) (hw : ∀ n, w n ≠ ⊥)
include hw

/-- No round takes a position an earlier round took. -/
theorem sel_new (r : ℕ) (hr : r < 1024) : ∀ i < r, sel w i ≠ sel w r := by
  intro i hi e
  have hcard : ((Finset.range r).image fun i => sel w i).card < (Finset.univ : Finset (Fin 1024)).card := by
    refine lt_of_le_of_lt Finset.card_image_le ?_
    simpa using hr
  obtain ⟨n, -, hn⟩ := Finset.exists_mem_notMem_of_card_lt_card hcard
  have h1 : dropN w r n = w n := by
    rw [dropN_eq, if_neg]
    rintro ⟨i, hi, e⟩
    exact hn (Finset.mem_image.mpr ⟨i, Finset.mem_range.mpr hi, e⟩)
  have h2 : dropN w r (sel w r) = ⊥ := by rw [dropN_eq, if_pos ⟨i, hi, e⟩]
  have h3 := le_pick (dropN w r) n
  rw [h1] at h3
  have h4 : w n ≤ ⊥ := h3.trans (le_of_eq h2)
  exact hw n (le_bot_iff.mp h4)

theorem sel_inj (i j : ℕ) (hi : i < 1024) (hj : j < 1024) (e : sel w i = sel w j) : i = j := by
  rcases lt_trichotomy i j with h | h | h
  · exact absurd e (sel_new w hw j hj i h)
  · exact h
  · exact absurd e.symm (sel_new w hw i hi j h)

theorem not_before_sel (r : ℕ) (hr : r < 1024) (p : Fin 1024) (hp : ∀ i < r, sel w i ≠ p) :
    before w p (sel w r) = false := by
  have e1 : dropN w r p = w p := by
    rw [dropN_eq, if_neg]; rintro ⟨i, hi, e⟩; exact hp i hi e
  have e2 : dropN w r (sel w r) = w (sel w r) := by
    rw [dropN_eq, if_neg]; rintro ⟨i, hi, e⟩; exact sel_new w hw r hr i hi e
  have h := le_pick (dropN w r) p
  rw [e1] at h
  have h' : w p ≤ w (sel w r) := h.trans (le_of_eq e2)
  simp only [before, Bool.or_eq_false_iff, decide_eq_false_iff_not, Bool.and_eq_false_iff, not_lt]
  refine ⟨h', ?_⟩
  by_cases he : w p = w (sel w r)
  · right
    refine pick_le (dropN w r) p fun m => ?_
    have hm := le_pick (dropN w r) m
    rw [e1, he]
    exact hm.trans (le_of_eq e2)
  · exact Or.inl he

omit hw in
theorem before_strict : StrictTotalBefore (before w) := by
  have h := StrictTotalBefore.of_key_then_position (n := 1024) (fun a b : EReal => decide (b < a)) w
    (fun a => by simp) (fun a b c h1 h2 => by
      simp only [decide_eq_true_eq] at *; exact lt_trans h2 h1)
    (fun a b => by
      simp only [decide_eq_true_eq]
      rcases lt_trichotomy a b with h | h | h
      · exact Or.inr (Or.inr h)
      · exact Or.inr (Or.inl h)
      · exact Or.inl h)
  exact h

/-- The first positions of the sort by value, then position, are the ones taken by the rounds. -/
theorem sortedFrom_before (r : Fin 10) : sortedFrom (before w) (r.castLE (by decide : 10 ≤ 1024)) = sel w r := by
  refine (before_strict w).sortedFrom_eq_of_prefix (k := 10) (by decide) (fun r => sel w r) ?_ ?_ ?_ r
  · intro i j e
    exact Fin.ext (sel_inj w hw i j (by omega) (by omega) e)
  · intro i j hij
    refine not_before_sel w hw i (by omega) _ fun t ht e => ?_
    have := sel_inj w hw t j (by omega) (by omega) e
    have h2 : i.val < j.val := hij
    omega
  · intro i p hp
    exact not_before_sel w hw i (by omega) p fun t ht e => hp ⟨t, by omega⟩ e

omit hw in
/-- On positions in increasing order, a stable sort by value alone is the sort by value, then position. -/
theorem stableSort_value (l : List (Fin 1024)) (hl : l.Pairwise (· < ·)) :
    stableSort (fun k k' => Ideal.cmpTotal .gt (w k) (w k') == 1#1) l = stableSort (before w) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have h1 : (decide (b < a)) = false := decide_eq_false (not_lt.mpr hab.le)
    simp only [before, h1, Bool.and_false, Bool.or_false, Ideal.cmpTotal, Ideal.cmp, CmpDirection.ordered]
    by_cases h : w a < w b <;> simp [h]

/-- The first positions of the stable descending sort are the ones taken by the rounds. -/
theorem sortedFrom_value (r : Fin 10) :
    sortedFrom (fun k k' : Fin 1024 => FloatOps.cmpfTotal (F := Ideal) (φ := .f32) .gt (w k) (w k') == 1#1)
      (r.castLE (by decide : 10 ≤ 1024)) = sel w r := by
  rw [← sortedFrom_before w hw r]
  have h := stableSort_value w (List.finRange 1024) (List.pairwise_lt_finRange 1024)
  unfold sortedFrom sortPositions
  exact List.get_of_eq h _

end Cert.Select

end
-- ==== Proof.Spec.lean ====
/- The mathematics both programs compute, for one batch. The first part, up to the queries, is over the reals: the inputs
   are finite and the columns are zero or not too short, so nothing leaves them. From the queries on it is written over
   the extended reals. -/
module

public import proofs.«01_k».proof.Proof.Select
public import Mathlib.Analysis.SpecialFunctions.Pow.Real

@[expose] public section

noncomputable section

namespace Cert.Spec

open Idealize.ShloMosaic

section reals
variable (x : Fin 64 → Fin 1024 → ℝ) (W1 : Fin 64 → Fin 8 → ℝ) (b1 : Fin 8 → ℝ) (W2 : Fin 8 → Fin 64 → ℝ) (b2 : Fin 64 → ℝ)

/-- The inner product of two columns. -/
def dot (m n : Fin 1024) : ℝ := ∑ k, x k m * x k n
/-- A column's length. -/
def len (n : Fin 1024) : ℝ := Real.sqrt (dot x n n)
/-- The cosine of two columns' angle, 0 where one of them is zero. -/
def cosine (m n : Fin 1024) : ℝ := dot x m n * ((len x m)⁻¹ * (len x n)⁻¹)
/-- The adjacency: an edge where the cosine exceeds one half. -/
def adj (m n : Fin 1024) : ℝ := if (1 / 2 : ℝ) < cosine x m n then 1 else 0
/-- A column's sum. -/
def tot (n : Fin 1024) : ℝ := ∑ k, x k n
/-- The columns divided by their sums, 0 where the sum is 0. -/
def feat (k : Fin 64) (n : Fin 1024) : ℝ := x k n * (tot x n)⁻¹
/-- A node's degree, its loop counted. -/
def deg (n : Fin 1024) : ℝ := ∑ m, adj x m n + 1
/-- The first layer's product. -/
def lift1 (j : Fin 8) (n : Fin 1024) : ℝ := ∑ k, W1 k j * feat x k n
/-- The hidden layer. -/
def hid (j : Fin 8) (n : Fin 1024) : ℝ :=
  max ((∑ m, lift1 x W1 j m * adj x m n + lift1 x W1 j n) * (deg x n)⁻¹ + b1 j) 0
/-- The queries. -/
def qry (k : Fin 64) (n : Fin 1024) : ℝ :=
  (∑ j, W2 j k * (∑ m, hid x W1 b1 j m * adj x m n + hid x W1 b1 j n)) * (deg x n)⁻¹ + b2 k

theorem dot_comm (m n : Fin 1024) : dot x m n = dot x n m := Finset.sum_congr rfl fun k _ => mul_comm _ _
theorem cosine_comm (m n : Fin 1024) : cosine x m n = cosine x n m := by
  unfold cosine; rw [dot_comm x m n, mul_comm (len x m)⁻¹]
theorem adj_comm (m n : Fin 1024) : adj x m n = adj x n m := by unfold adj; rw [cosine_comm]
theorem adj_nonneg (m n : Fin 1024) : 0 ≤ adj x m n := by unfold adj; split <;> norm_num
theorem deg_pos (n : Fin 1024) : 0 < deg x n := by
  have : 0 ≤ ∑ m, adj x m n := Finset.sum_nonneg fun m _ => adj_nonneg x m n
  unfold deg; linarith

/-- A row of the normalised adjacency, loops included, applied to a vector. -/
theorem propagate (L : Fin 1024 → ℝ) (n : Fin 1024) :
    ∑ m, (deg x n)⁻¹ * (adj x n m + if n = m then 1 else 0) * L m = (∑ m, L m * adj x m n + L n) * (deg x n)⁻¹ := by
  have e : ∀ m, (deg x n)⁻¹ * (adj x n m + if n = m then 1 else 0) * L m = (deg x n)⁻¹ * (L m * adj x m n) + if n = m then (deg x n)⁻¹ * L m else 0 := by
    intro m
    rw [adj_comm x n m]
    split <;> ring
  simp only [e]
  rw [Finset.sum_add_distrib, Finset.sum_ite_eq, ← Finset.mul_sum]
  simp only [Finset.mem_univ, if_true]
  ring

/-- The second layer's product may be taken before the propagation or after it. -/
theorem lift_swap (H : Fin 8 → Fin 1024 → ℝ) (n : Fin 1024) (k : Fin 64) :
    ∑ m, (∑ j, H j m * W2 j k) * adj x m n + ∑ j, H j n * W2 j k = ∑ j, W2 j k * (∑ m, H j m * adj x m n + H j n) := by
  simp only [mul_add, Finset.sum_add_distrib, Finset.sum_mul, Finset.mul_sum]
  rw [Finset.sum_comm]
  congr 1
  · exact Finset.sum_congr rfl fun j _ => Finset.sum_congr rfl fun m _ => by ring
  · exact Finset.sum_congr rfl fun j _ => mul_comm _ _

/-- A zero column has no inner product with another. -/
theorem dot_zero (m n : Fin 1024) (h : dot x m m = 0) : dot x m n = 0 := by
  unfold dot at h ⊢
  rw [Finset.sum_eq_zero_iff_of_nonneg fun k _ => mul_self_nonneg _] at h
  refine Finset.sum_eq_zero fun k hk => ?_
  rw [mul_self_eq_zero.mp (h k hk), zero_mul]

/-- The cosine with its denominator held above a bound: the bound is never reached where every column is zero or has a
    squared length of at least the bound. -/
theorem cosine_guard (ε : ℝ) (hε : 0 < ε) (h : ∀ n, dot x n n = 0 ∨ ε ≤ dot x n n) (m n : Fin 1024) :
    dot x m n * (max (len x m * len x n) ε)⁻¹ = cosine x m n := by
  unfold cosine
  rcases h m with hm | hm
  · rw [dot_zero x m n hm, zero_mul, zero_mul]
  rcases h n with hn | hn
  · rw [dot_comm, dot_zero x n m hn, zero_mul, zero_mul]
  have hl : ε ≤ len x m * len x n := by
    unfold len
    rw [← Real.sqrt_mul (hε.le.trans hm)]
    exact Real.le_sqrt_of_sq_le (by rw [sq]; exact mul_le_mul hm hn hε.le (hε.le.trans hm))
  rw [max_eq_left hl, mul_inv]

end reals

section extended
variable (q : Fin 64 → Fin 1024 → EReal) (idx : Fin 64 → Fin 10 → Fin 64) (sel : Fin 10 → Fin 1024)

/-- The sampled products: position `n`, sample `s`. -/
def samp (s : Fin 10) (n : Fin 1024) : EReal := ∑ c, q (idx c s) n * q c n
/-- The sparsity measure of a position: the largest sampled product less their sum over 64. -/
def meas (n : Fin 1024) : EReal :=
  Finset.univ.fold max ⊥ (fun s => samp q idx s n) - (∑ s, samp q idx s n) * ((1 / 64 : ℝ) : EReal)

/-- The scores of the selected queries (`scale` is the float that both programs multiply by). -/
def score (scale : EReal) (r : Fin 10) (n : Fin 1024) : EReal := (∑ c, q c (sel r) * q c n) * scale
/-- The exponential of a score less the row's largest. -/
def ex (scale : EReal) (r : Fin 10) (n : Fin 1024) : EReal :=
  Ideal.exp (score q sel scale r n - Finset.univ.fold max ⊥ (score q sel scale r))
/-- The attention weights. -/
def attn (scale : EReal) (r : Fin 10) (n : Fin 1024) : EReal := Ideal.div (ex q sel scale r n) (∑ m, ex q sel scale r m)
/-- The new value of channel `k` at the `r`-th selected position. -/
def upd (scale : EReal) (k : Fin 64) (r : Fin 10) : EReal := ∑ m, q k m * attn q sel scale r m
/-- The running sum of channel `k` up to position `n`. -/
def run (k : Fin 64) (n : Fin 1024) : EReal := ∑ m ∈ Finset.univ.filter (· ≤ n), q k m
/-- The context: the new value where `n` was selected, the running sum elsewhere. -/
def ctx (scale : EReal) (k : Fin 64) (n : Fin 1024) : EReal :=
  if ∃ r, sel r = n then ∑ r, upd q sel scale k r * (if sel r = n then 1 else 0) else run q k n

/-- The context at a selected position is that selection's new value. -/
theorem ctx_sel (hsel : Function.Injective sel) (scale : EReal) (k : Fin 64) (r : Fin 10) :
    ctx q sel scale k (sel r) = upd q sel scale k r := by
  unfold ctx
  rw [if_pos ⟨r, rfl⟩, Finset.sum_eq_single r]
  · simp
  · intro t _ ht
    rw [if_neg fun e => ht (hsel e), mul_zero]
  · simp

/-- The context elsewhere is the running sum. -/
theorem ctx_other (scale : EReal) (k : Fin 64) (n : Fin 1024) (h : ∀ r, sel r ≠ n) :
    ctx q sel scale k n = run q k n := by
  unfold ctx; rw [if_neg fun ⟨r, e⟩ => h r e]

end extended

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) b := EReal.coe_strictMono.monotone.map_max

theorem coe_ite (p : Prop) [Decidable p] (a b : ℝ) : ((if p then a else b : ℝ) : EReal) = if p then (a : EReal) else b := by
  split <;> rfl

/-- With finite queries the measure is not `-∞`. -/
theorem meas_ne_bot (q : Fin 64 → Fin 1024 → ℝ) (idx : Fin 64 → Fin 10 → Fin 64) (n : Fin 1024) :
    meas (fun k n => (q k n : EReal)) idx n ≠ ⊥ := by
  have hs : ∀ s, samp (fun k n => (q k n : EReal)) idx s n = ((∑ c, q (idx c s) n * q c n : ℝ) : EReal) := by
    intro s; unfold samp; rw [coe_sum]; simp only [EReal.coe_mul]
  unfold meas
  simp only [hs]
  rw [← coe_sum, ← EReal.coe_mul, sub_eq_add_neg, ← EReal.coe_neg]
  intro h
  rcases EReal.add_eq_bot_iff.mp h with h | h
  · have h0 : (((∑ c, q (idx c 0) n * q c n : ℝ) : EReal)) ≤ ⊥ := by
      rw [← h]
      exact Finset.le_fold_max _ |>.mpr (Or.inr ⟨0, Finset.mem_univ _, le_refl _⟩)
    exact EReal.coe_ne_bot _ (le_bot_iff.mp h0)
  · exact EReal.coe_ne_bot _ h

section whole
variable (x : Fin 4 → Fin 64 → Fin 1024 → ℝ) (W1 : Fin 64 → Fin 8 → ℝ) (b1 : Fin 8 → ℝ) (W2 : Fin 8 → Fin 64 → ℝ) (b2 : Fin 64 → ℝ)
  (idx : Fin 64 → Fin 10 → Fin 64)

/-- The queries of batch `b`, as extended reals. -/
def Q (b : Fin 4) (k : Fin 64) (n : Fin 1024) : EReal := (qry (x b) W1 b1 W2 b2 k n : EReal)
/-- The measures of batch `b`. -/
def M (b : Fin 4) (n : Fin 1024) : EReal := meas (Q x W1 b1 W2 b2 b) idx n
/-- The selected positions of batch `b`. -/
def sels (b : Fin 4) (r : Fin 10) : Fin 1024 := Select.sel (M x W1 b1 W2 b2 idx b) r
/-- The context of batch `b`. -/
def context (scale : EReal) (b : Fin 4) (k : Fin 64) (n : Fin 1024) : EReal :=
  ctx (Q x W1 b1 W2 b2 b) (sels x W1 b1 W2 b2 idx b) scale k n

theorem M_ne_bot (b : Fin 4) (n : Fin 1024) : M x W1 b1 W2 b2 idx b n ≠ ⊥ :=
  meas_ne_bot (qry (x b) W1 b1 W2 b2) idx n

/-- The selected positions are distinct. -/
theorem sels_inj (b : Fin 4) : Function.Injective (sels x W1 b1 W2 b2 idx b) := fun i j e =>
  Fin.ext (Select.sel_inj _ (M_ne_bot x W1 b1 W2 b2 idx b) i j (by omega) (by omega) e)

end whole

end Cert.Spec

end
-- ==== Proof.Consts.lean ====
/- The extended reals that the programs' float constants denote. -/
module

public import Idealize.ShloMosaic.PureOps.Ideal

@[expose] public section

noncomputable section

namespace Cert.Consts

open Idealize.ShloMosaic

theorem half : Ideal.ofBits .f32 0x3F000000#32 = ((1 / 2 : ℝ) : EReal) := by
  simp [Ideal.ofBits, Ideal.ieee, -EReal.coe_mul]; norm_num
theorem inv64 : Ideal.ofBits .f32 0x3C800000#32 = ((1 / 64 : ℝ) : EReal) := by
  simp [Ideal.ofBits, Ideal.ieee, -EReal.coe_mul]; norm_num
theorem c64 : Ideal.ofBits .f32 0x42800000#32 = ((64 : ℝ) : EReal) := by
  simp [Ideal.ofBits, Ideal.ieee, -EReal.coe_mul]; norm_num
theorem negOne : Ideal.ofBits .f32 0xBF800000#32 = ((-1 : ℝ) : EReal) := by
  simp [Ideal.ofBits, Ideal.ieee, -EReal.coe_mul]; norm_num
theorem top : Ideal.ofBits .f32 0x7F800000#32 = ⊤ := by simp [Ideal.ofBits, Ideal.ieee]
theorem bot : Ideal.ofBits .f32 0xFF800000#32 = ⊥ := by simp [Ideal.ofBits, Ideal.ieee]

/-- The float nearest 1e-8. -/
def tiny : ℝ := 11258999 / 2 ^ 50
theorem tiny_pos : 0 < tiny := by unfold tiny; norm_num
theorem tiny_eq : Ideal.ofBits .f32 0x322BCC77#32 = (tiny : EReal) := by
  simp [Ideal.ofBits, Ideal.ieee, -EReal.coe_mul, tiny]; norm_num

theorem one_div_coe {y : ℝ} (h : y ≠ 0) : Ideal.div 1 (y : EReal) = ((y⁻¹ : ℝ) : EReal) := by
  rw [Ideal.div_coe h, one_mul, one_div]

/-- The square root of a real that is not negative. -/
theorem sqrt_coe {y : ℝ} (h : 0 ≤ y) : Ideal.sqrt (y : EReal) = (Real.sqrt y : EReal) := by
  rw [Ideal.sqrt_coe, if_neg (not_lt.mpr h)]

/-- A real is not infinite: its absolute value is not `⊤`. -/
theorem absf_coe (y : ℝ) : FloatOps.absf (F := Ideal) (φ := .f32) (y : EReal) ≠ ⊤ := by
  show max (y : EReal) (-(y : EReal)) ≠ ⊤
  rw [← EReal.coe_neg]
  exact (max_lt (EReal.coe_lt_top _) (EReal.coe_lt_top _)).ne

/-- The reciprocal with infinity put to zero is the real inverse, zero at zero. -/
theorem safe_inv (y : ℝ) :
    (if FloatOps.absf (F := Ideal) (φ := .f32) (Ideal.div 1 (y : EReal)) = ⊤ then 0 else Ideal.div 1 (y : EReal)) = ((y⁻¹ : ℝ) : EReal) := by
  by_cases h : y = 0
  · subst h
    have e : FloatOps.absf (F := Ideal) (φ := .f32) (Ideal.div 1 ((0 : ℝ) : EReal)) = ⊤ := by
      show max (Ideal.div 1 ((0 : ℝ) : EReal)) (-(Ideal.div 1 ((0 : ℝ) : EReal))) = ⊤
      simp [Ideal.div]
    rw [if_pos e]; simp
  · rw [one_div_coe h, if_neg (absf_coe _)]

/-- The power with exponent minus one is the real inverse, zero at zero. -/
theorem pow_neg_one (y : ℝ) : Ideal.pow (y : EReal) ((-1 : ℝ) : EReal) = ((y⁻¹ : ℝ) : EReal) := by
  rw [Ideal.pow_coe_coe]
  exact congrArg _ (Real.rpow_neg_one y)

theorem uitofp_bit (b : Bool) : FloatOps.uitofp (F := Ideal) .f32 (BitVec.ofBool b) = if b then 1 else 0 := by
  cases b
  · show (((BitVec.ofBool false).toNat : ℝ) : EReal) = _
    simp
  · show (((BitVec.ofBool true).toNat : ℝ) : EReal) = _
    simp

/-- A condition as a float: one where it holds and zero where it does not. -/
theorem sitofp_bit (b : Bool) : FloatOps.sitofp (F := Ideal) .f32 (BitVec.setWidth 32 (BitVec.ofBool b)) = if b then 1 else 0 := by
  cases b
  · show (((BitVec.setWidth 32 (BitVec.ofBool false)).toInt : ℝ) : EReal) = _
    simp
  · show (((BitVec.setWidth 32 (BitVec.ofBool true)).toInt : ℝ) : EReal) = _
    simp

end Cert.Consts

end
-- ==== Proof.Tame.lean ====
/- What the precondition gives: the inputs are reals, and every column of the batches is zero or not too short. -/
module

public import proofs.«01_k».proof.Proof.Gen.Pre_tame
public import proofs.«01_k».proof.Proof.Spec
public import proofs.«01_k».proof.Proof.Consts
public import Idealize.ShloMosaic.Lib.Pointwise

@[expose] public section

set_option maxRecDepth 16384

noncomputable section

namespace Cert.Tame

open Idealize.ShloMosaic Cert.Pre_tame

/-- An extended real whose absolute value is below infinity is a real. -/
theorem real_of (a : EReal) (h : BitVec.ofBool (decide (FloatOps.absf (F := Ideal) (φ := .f32) a < Ideal.ofBits .f32 0x7F800000#32)) = 1#1) :
    ∃ r : ℝ, a = (r : EReal) := by
  have h' : max a (-a) < ⊤ := by
    rw [Consts.top] at h
    by_contra hn
    have e : decide (FloatOps.absf (F := Ideal) (φ := .f32) a < (⊤ : EReal)) = false := decide_eq_false hn
    rw [e] at h
    exact absurd h (by decide)
  induction a with
  | bot => exact absurd h' (by simp)
  | top => exact absurd h' (by simp)
  | coe r => exact ⟨r, rfl⟩

/-- A disjunction of tests that is one has a test that holds. -/
theorem or_of (p q : Prop) [Decidable p] [Decidable q] (h : IntOp.ori (BitVec.ofBool (decide p)) (BitVec.ofBool (decide q)) = 1#1) : p ∨ q := by
  by_cases hp : p
  · exact Or.inl hp
  · by_cases hq : q
    · exact Or.inr hq
    · rw [decide_eq_false hp, decide_eq_false hq] at h
      exact absurd h (by decide)

variable (a0 : FVec Ideal S4x64x1024 .f32) (a1 : FVec Ideal S64x8 .f32) (a2 : FVec Ideal S8 .f32) (a3 : FVec Ideal S8x64 .f32) (a4 : FVec Ideal S64 .f32) (a5 : FVec Ideal S1 .f32)

/-! The six arrays of tests, read at an index. -/
theorem test0 (b : Fin 4) (k : Fin 64) (n : Fin 1024) : (fn a0 a1 a2 a3 a4 a5).1 (ix3 b k n)
    = BitVec.ofBool (decide (FloatOps.absf (F := Ideal) (φ := .f32) (a0 (ix3 b k n)) < Ideal.ofBits .f32 0x7F800000#32)) := by pointwise [fn, fn_part1]
theorem test1 (k : Fin 64) (j : Fin 8) : (fn a0 a1 a2 a3 a4 a5).2.1 (ix2 k j)
    = BitVec.ofBool (decide (FloatOps.absf (F := Ideal) (φ := .f32) (a1 (ix2 k j)) < Ideal.ofBits .f32 0x7F800000#32)) := by pointwise [fn, fn_part1]
theorem test2 (j : Fin 8) : (fn a0 a1 a2 a3 a4 a5).2.2.1 (ix1 j)
    = BitVec.ofBool (decide (FloatOps.absf (F := Ideal) (φ := .f32) (a2 (ix1 j)) < Ideal.ofBits .f32 0x7F800000#32)) := by pointwise [fn, fn_part1]
theorem test3 (j : Fin 8) (k : Fin 64) : (fn a0 a1 a2 a3 a4 a5).2.2.2.1 (ix2 j k)
    = BitVec.ofBool (decide (FloatOps.absf (F := Ideal) (φ := .f32) (a3 (ix2 j k)) < Ideal.ofBits .f32 0x7F800000#32)) := by pointwise [fn, fn_part1]
theorem test4 (k : Fin 64) : (fn a0 a1 a2 a3 a4 a5).2.2.2.2.1 (ix1 k)
    = BitVec.ofBool (decide (FloatOps.absf (F := Ideal) (φ := .f32) (a4 (ix1 k)) < Ideal.ofBits .f32 0x7F800000#32)) := by pointwise [fn, fn_part1]
theorem test5 (b : Fin 4) (n : Fin 1024) : (fn a0 a1 a2 a3 a4 a5).2.2.2.2.2 (ix2 b n)
    = IntOp.ori (BitVec.ofBool (decide (∑ k, a0 (ix3 b k n) * a0 (ix3 b k n) = 0)))
      (BitVec.ofBool (decide (Ideal.ofBits .f32 0x322BCC77#32 ≤ ∑ k, a0 (ix3 b k n) * a0 (ix3 b k n)))) := by pointwise [fn, fn_part1]

/-- The precondition's reals. -/
theorem reals (h0 : (fn a0 a1 a2 a3 a4 a5).1 = fun _ => 1#1) (h1 : (fn a0 a1 a2 a3 a4 a5).2.1 = fun _ => 1#1) (h2 : (fn a0 a1 a2 a3 a4 a5).2.2.1 = fun _ => 1#1)
    (h3 : (fn a0 a1 a2 a3 a4 a5).2.2.2.1 = fun _ => 1#1) (h4 : (fn a0 a1 a2 a3 a4 a5).2.2.2.2.1 = fun _ => 1#1) (h5 : (fn a0 a1 a2 a3 a4 a5).2.2.2.2.2 = fun _ => 1#1) :
    ∃ (x : Fin 4 → Fin 64 → Fin 1024 → ℝ) (W1 : Fin 64 → Fin 8 → ℝ) (B1 : Fin 8 → ℝ) (W2 : Fin 8 → Fin 64 → ℝ) (B2 : Fin 64 → ℝ),
      (∀ b n, Spec.dot (x b) n n = 0 ∨ Consts.tiny ≤ Spec.dot (x b) n n) ∧ (∀ b k n, a0 (ix3 b k n) = (x b k n : EReal)) ∧ (∀ k j, a1 (ix2 k j) = (W1 k j : EReal))
        ∧ (∀ j, a2 (ix1 j) = (B1 j : EReal)) ∧ (∀ j k, a3 (ix2 j k) = (W2 j k : EReal)) ∧ (∀ k, a4 (ix1 k) = (B2 k : EReal)) := by
  choose x hx using fun b k n => real_of _ ((test0 a0 a1 a2 a3 a4 a5 b k n).symm.trans (congrFun h0 (ix3 b k n)))
  choose W1 hW1 using fun k j => real_of _ ((test1 a0 a1 a2 a3 a4 a5 k j).symm.trans (congrFun h1 (ix2 k j)))
  choose B1 hB1 using fun j => real_of _ ((test2 a0 a1 a2 a3 a4 a5 j).symm.trans (congrFun h2 (ix1 j)))
  choose W2 hW2 using fun j k => real_of _ ((test3 a0 a1 a2 a3 a4 a5 j k).symm.trans (congrFun h3 (ix2 j k)))
  choose B2 hB2 using fun k => real_of _ ((test4 a0 a1 a2 a3 a4 a5 k).symm.trans (congrFun h4 (ix1 k)))
  refine ⟨x, W1, B1, W2, B2, fun b n => ?_, hx, hW1, hB1, hW2, hB2⟩
  have e : ∑ k, a0 (ix3 b k n) * a0 (ix3 b k n) = ((Spec.dot (x b) n n : ℝ) : EReal) := by
    simp only [hx, ← EReal.coe_mul, ← Spec.coe_sum]
    rfl
  have h := or_of _ _ ((test5 a0 a1 a2 a3 a4 a5 b n).symm.trans (congrFun h5 (ix2 b n)))
  rw [e, Consts.tiny_eq] at h
  rcases h with h | h
  · exact Or.inl (by exact_mod_cast h)
  · exact Or.inr (EReal.coe_le_coe_iff.mp h)

end Cert.Tame

end
-- ==== Proof.KStages.lean ====
/- The stages of the kernel's computation, each written once for an arbitrary batch: the printed body repeats
   the same operations for its four batches, and the payloads of every batch are these functions. -/
module

public import proofs.«01_k».proof.Proof.Gen.KernelIdeal.Frame

@[expose] public section

set_option maxRecDepth 16384

noncomputable section

namespace Cert.KernelIdeal.Stage

open Idealize.ShloMosaic Idealize.SL.Sem Cert.KernelIdeal Cert.KernelIdeal.Gen

variable {F : FTy → Type} [FloatOps F]

/-- One batch as a matrix: channel by position. -/
def tile (y : Vec F S1x64x1024 .f32) : FVec F S64x1024 .f32 :=
  shapeCast S64x1024 y shapeCasts_S1x64x1024_S64x1024

/-- The length of every column. -/
def len (X : FVec F S64x1024 .f32) : FVec F S1x1024 .f32 :=
  sqrt (shapeCast S1x1024 (multiReduction .add [0] S1024 (mulf X X) 0x00000000#32 reduces_S64x1024_S1024 (.inl rfl) rfl) shapeCasts_S1024_S1x1024)

/-- The reciprocal of every column's length, 0 for a zero column. -/
def lenInv (X : FVec F S64x1024 .f32) : FVec F S1x1024 .f32 :=
  select (cmpf .ogt (len X) (broadcast S1x1024 (Scalar.ofBits .f32 0x00000000#32)))
    (divf (broadcast S1x1024 (Scalar.ofBits .f32 0x3F800000#32)) (len X))
    (broadcast S1x1024 (Scalar.ofBits .f32 0x00000000#32))

/-- The columns scaled to length 1. -/
def unitCols (X : FVec F S64x1024 .f32) : FVec F S64x1024 .f32 :=
  mulf X (broadcastTo S64x1024 (lenInv X) broadcasts_S1x1024_S64x1024)

/-- The adjacency: 1 where the cosine of two columns exceeds one half. -/
def adj (X : FVec F S64x1024 .f32) : FVec F S1024x1024 .f32 :=
  sitofp .f32 (extui 32 (cmpf .ogt
    (matmul dot_S64x1024_S64x1024_S1024x1024_0_0_1_1_n_n none (unitCols X) (unitCols X) (constant S1024x1024 .f32 0x00000000#32))
    (broadcast S1024x1024 (Scalar.ofBits .f32 0x3F000000#32))) natLt_1_32)

/-- The reciprocal of every column's sum. -/
def sumInv (X : FVec F S64x1024 .f32) : FVec F S1x1024 .f32 :=
  divf (broadcast S1x1024 (Scalar.ofBits .f32 0x3F800000#32))
    (shapeCast S1x1024 (multiReduction .add [0] S1024 X 0x00000000#32 reduces_S64x1024_S1024 (.inl rfl) rfl) shapeCasts_S1024_S1x1024)

/-- The columns divided by their sums (0 where the sum is 0). -/
def feat (X : FVec F S64x1024 .f32) : FVec F S64x1024 .f32 :=
  mulf X (broadcastTo S64x1024
    (select (cmpf .oeq (absf (sumInv X)) (broadcast S1x1024 (Scalar.ofBits .f32 0x7F800000#32)))
      (broadcast S1x1024 (Scalar.ofBits .f32 0x00000000#32)) (sumInv X)) broadcasts_S1x1024_S64x1024)

/-- The first layer's product, with a row of ones under it. -/
def lift1 (X : FVec F S64x1024 .f32) (w1 : Vec F S64x8 .f32) : FVec F S9x1024 .f32 :=
  concatenate S9x1024 0 [⟨S8x1024, matmul dot_S8x64_S64x1024_S8x1024_1_0_0_1_n_n none (transpose S8x64 [1, 0] w1 transposes_S64x8_p1_0_S8x64) (feat X) (constant S8x1024 .f32 0x00000000#32)⟩,
    ⟨S1x1024, broadcast S1x1024 (Scalar.ofBits .f32 0x3F800000#32)⟩] concatenates_S8x1024_S1x1024_S9x1024_d0

/-- The first propagation over the graph with a loop at every node; its last row is the degrees. -/
def prop1 (X : FVec F S64x1024 .f32) (w1 : Vec F S64x8 .f32) : FVec F S9x1024 .f32 :=
  addf (matmul dot_S9x1024_S1024x1024_S9x1024_1_0_0_1_n_n none (lift1 X w1) (adj X) (constant S9x1024 .f32 0x00000000#32)) (lift1 X w1)

/-- The reciprocals of the degrees. -/
def degInv (X : FVec F S64x1024 .f32) (w1 : Vec F S64x8 .f32) : FVec F S1x1024 .f32 :=
  divf (broadcast S1x1024 (Scalar.ofBits .f32 0x3F800000#32)) (extractStridedSlice S1x1024 ![8, 0] (prop1 X w1) slices_S9x1024_o8_0_S1x1024)

/-- The hidden layer. -/
def hid (X : FVec F S64x1024 .f32) (w1 : Vec F S64x8 .f32) (b1 : Vec F S8x1 .f32) : FVec F S8x1024 .f32 :=
  maximumf (addf (mulf (extractStridedSlice S8x1024 ![0, 0] (prop1 X w1) slices_S9x1024_o0_0_S8x1024)
      (broadcastTo S8x1024 (degInv X w1) broadcasts_S1x1024_S8x1024))
    (broadcastTo S8x1024 (shapeCast S8x1 b1 shapeCasts_S8x1_S8x1) broadcasts_S8x1_S8x1024))
    (broadcast S8x1024 (Scalar.ofBits .f32 0x00000000#32))

/-- The second propagation. -/
def prop2 (X : FVec F S64x1024 .f32) (w1 : Vec F S64x8 .f32) (b1 : Vec F S8x1 .f32) : FVec F S8x1024 .f32 :=
  addf (matmul dot_S8x1024_S1024x1024_S8x1024_1_0_0_1_n_n none (hid X w1 b1) (adj X) (constant S8x1024 .f32 0x00000000#32)) (hid X w1 b1)

/-- The queries: channel by position. -/
def qry (X : FVec F S64x1024 .f32) (w1 : Vec F S64x8 .f32) (b1 : Vec F S8x1 .f32) (w2 : Vec F S8x64 .f32) (b2 : Vec F S64x1 .f32) : FVec F S64x1024 .f32 :=
  addf (mulf (matmul dot_S64x8_S8x1024_S64x1024_1_0_0_1_n_n none (transpose S64x8 [1, 0] w2 transposes_S8x64_p1_0_S64x8) (prop2 X w1 b1) (constant S64x1024 .f32 0x00000000#32))
      (broadcastTo S64x1024 (degInv X w1) broadcasts_S1x1024_S64x1024))
    (broadcastTo S64x1024 (shapeCast S64x1 b2 shapeCasts_S64x1_S64x1) broadcasts_S64x1_S64x1024)

/-! The running sums: ten doubling steps, each adding the same matrix moved right by a power of two. -/

def step0 (Q : FVec F S64x1024 .f32) : FVec F S64x1024 .f32 :=
  addf Q (concatenate S64x1024 1 [⟨S64x1, broadcast S64x1 (Scalar.ofBits .f32 0x00000000#32)⟩, ⟨S64x1023, extractStridedSlice S64x1023 ![0, 0] Q slices_S64x1024_o0_0_S64x1023⟩] concatenates_S64x1_S64x1023_S64x1024_d1)
def step1 (Q : FVec F S64x1024 .f32) : FVec F S64x1024 .f32 :=
  addf Q (concatenate S64x1024 1 [⟨S64x2, broadcast S64x2 (Scalar.ofBits .f32 0x00000000#32)⟩, ⟨S64x1022, extractStridedSlice S64x1022 ![0, 0] Q slices_S64x1024_o0_0_S64x1022⟩] concatenates_S64x2_S64x1022_S64x1024_d1)
def step2 (Q : FVec F S64x1024 .f32) : FVec F S64x1024 .f32 :=
  addf Q (concatenate S64x1024 1 [⟨S64x4, broadcast S64x4 (Scalar.ofBits .f32 0x00000000#32)⟩, ⟨S64x1020, extractStridedSlice S64x1020 ![0, 0] Q slices_S64x1024_o0_0_S64x1020⟩] concatenates_S64x4_S64x1020_S64x1024_d1)
def step3 (Q : FVec F S64x1024 .f32) : FVec F S64x1024 .f32 :=
  addf Q (concatenate S64x1024 1 [⟨S64x8, broadcast S64x8 (Scalar.ofBits .f32 0x00000000#32)⟩, ⟨S64x1016, extractStridedSlice S64x1016 ![0, 0] Q slices_S64x1024_o0_0_S64x1016⟩] concatenates_S64x8_S64x1016_S64x1024_d1)
def step4 (Q : FVec F S64x1024 .f32) : FVec F S64x1024 .f32 :=
  addf Q (concatenate S64x1024 1 [⟨S64x16, broadcast S64x16 (Scalar.ofBits .f32 0x00000000#32)⟩, ⟨S64x1008, extractStridedSlice S64x1008 ![0, 0] Q slices_S64x1024_o0_0_S64x1008⟩] concatenates_S64x16_S64x1008_S64x1024_d1)
def step5 (Q : FVec F S64x1024 .f32) : FVec F S64x1024 .f32 :=
  addf Q (concatenate S64x1024 1 [⟨S64x32, broadcast S64x32 (Scalar.ofBits .f32 0x00000000#32)⟩, ⟨S64x992, extractStridedSlice S64x992 ![0, 0] Q slices_S64x1024_o0_0_S64x992⟩] concatenates_S64x32_S64x992_S64x1024_d1)
def step6 (Q : FVec F S64x1024 .f32) : FVec F S64x1024 .f32 :=
  addf Q (concatenate S64x1024 1 [⟨S64x64, broadcast S64x64 (Scalar.ofBits .f32 0x00000000#32)⟩, ⟨S64x960, extractStridedSlice S64x960 ![0, 0] Q slices_S64x1024_o0_0_S64x960⟩] concatenates_S64x64_S64x960_S64x1024_d1)
def step7 (Q : FVec F S64x1024 .f32) : FVec F S64x1024 .f32 :=
  addf Q (concatenate S64x1024 1 [⟨S64x128, broadcast S64x128 (Scalar.ofBits .f32 0x00000000#32)⟩, ⟨S64x896, extractStridedSlice S64x896 ![0, 0] Q slices_S64x1024_o0_0_S64x896⟩] concatenates_S64x128_S64x896_S64x1024_d1)
def step8 (Q : FVec F S64x1024 .f32) : FVec F S64x1024 .f32 :=
  addf Q (concatenate S64x1024 1 [⟨S64x256, broadcast S64x256 (Scalar.ofBits .f32 0x00000000#32)⟩, ⟨S64x768, extractStridedSlice S64x768 ![0, 0] Q slices_S64x1024_o0_0_S64x768⟩] concatenates_S64x256_S64x768_S64x1024_d1)
def step9 (Q : FVec F S64x1024 .f32) : FVec F S64x1024 .f32 :=
  addf Q (concatenate S64x1024 1 [⟨S64x512, broadcast S64x512 (Scalar.ofBits .f32 0x00000000#32)⟩, ⟨S64x512, extractStridedSlice S64x512 ![0, 0] Q slices_S64x1024_o0_0_S64x512⟩] concatenates_S64x512_S64x512_S64x1024_d1)

/-- The running sums along the positions. -/
def scan (Q : FVec F S64x1024 .f32) : FVec F S64x1024 .f32 :=
  step9 (step8 (step7 (step6 (step5 (step4 (step3 (step2 (step1 (step0 Q)))))))))

/-- The sampled products: sample by position. -/
def samp (Q : FVec F S64x1024 .f32) (e : Vec F S640x64 .f32) : FVec F S10x1024 .f32 :=
  multiReduction .add [1] S10x1024
    (mulf (shapeCast S10x64x1024 (matmul dot_S640x64_S64x1024_S640x1024_1_0_0_1_n_n none e Q (constant S640x1024 .f32 0x00000000#32)) shapeCasts_S640x1024_S10x64x1024)
      (broadcastTo S10x64x1024 (shapeCast S1x64x1024 Q shapeCasts_S64x1024_S1x64x1024) broadcasts_S1x64x1024_S10x64x1024))
    0x00000000#32 reduces_S10x64x1024_S10x1024 (.inl rfl) rfl

/-- The sparsity measure of every position: the largest sampled product less their sum over 64. -/
def meas (K : FVec F S10x1024 .f32) : FVec F S1x1024 .f32 :=
  subf (shapeCast S1x1024 (multiReduction .maximumf [0] S1024 K 0xFF800000#32 reduces_S10x1024_S1024 (.inl rfl) rfl) shapeCasts_S1024_S1x1024)
    (mulf (shapeCast S1x1024 (multiReduction .add [0] S1024 K 0x00000000#32 reduces_S10x1024_S1024 (.inl rfl) rfl) shapeCasts_S1024_S1x1024)
      (broadcast S1x1024 (Scalar.ofBits .f32 0x3C800000#32)))

/-- The measures of the four batches, one row each. -/
def stack (M0 M1 M2 M3 : FVec F S1x1024 .f32) : FVec F S4x1024 .f32 :=
  concatenate S4x1024 0 [⟨S1x1024, M0⟩, ⟨S1x1024, M1⟩, ⟨S1x1024, M2⟩, ⟨S1x1024, M3⟩] concatenates_S1x1024_S1x1024_S1x1024_S1x1024_S4x1024_d0

/-- Where each row is at its largest. -/
def atMax (M : FVec F S4x1024 .f32) : IVec S4x1024 1 :=
  cmpf .oeq M (broadcastTo S4x1024 (shapeCast S4x1 (multiReduction .maximumf [1] S4 M 0xFF800000#32 reduces_S4x1024_S4 (.inl rfl) rfl) shapeCasts_S4_S4x1) broadcasts_S4x1_S4x1024)

/-- The least position of every row at which it is largest. -/
def first (M : FVec F S4x1024 .f32) : IVec S4 32 :=
  multiReductionI .minsi [1] S4 (select (atMax M) (iota .tc S4x1024 32 [1] iota_S4x1024_d1_w32) (broadcast S4x1024 1024#32)) 2147483647#32 reduces_S4x1024_S4 rfl

/-- A mark at that position. -/
def mark (M : FVec F S4x1024 .f32) : IVec S4x1024 1 :=
  cmpi .eq (iota .tc S4x1024 32 [1] iota_S4x1024_d1_w32) (broadcastTo S4x1024 (shapeCast S4x1 (first M) shapeCasts_S4_S4x1) broadcasts_S4x1_S4x1024)

/-- The marks as numbers. -/
def hot (M : FVec F S4x1024 .f32) : FVec F S4x1024 .f32 := sitofp .f32 (extui 32 (mark M) natLt_1_32)

/-- The measures with the marked one of every row taken away. -/
def drop (M : FVec F S4x1024 .f32) : FVec F S4x1024 .f32 :=
  select (mark M) (broadcast S4x1024 (Scalar.ofBits .f32 0xFF800000#32)) M

/-- The measures after `n` removals. -/
def dropN (M : FVec F S4x1024 .f32) : ℕ → FVec F S4x1024 .f32
  | 0 => M
  | n + 1 => drop (dropN M n)

/-- The ten marks of one batch, one row each (`o` is the batch's row in the measures). -/
def hots (o : Fin 2 → ℕ) (ho : S4x1024.Slices o S1x1024) (M : FVec F S4x1024 .f32) : FVec F S10x1024 .f32 :=
  concatenate S10x1024 0 [⟨S1x1024, extractStridedSlice S1x1024 o (hot (dropN M 0)) ho⟩, ⟨S1x1024, extractStridedSlice S1x1024 o (hot (dropN M 1)) ho⟩,
    ⟨S1x1024, extractStridedSlice S1x1024 o (hot (dropN M 2)) ho⟩, ⟨S1x1024, extractStridedSlice S1x1024 o (hot (dropN M 3)) ho⟩,
    ⟨S1x1024, extractStridedSlice S1x1024 o (hot (dropN M 4)) ho⟩, ⟨S1x1024, extractStridedSlice S1x1024 o (hot (dropN M 5)) ho⟩,
    ⟨S1x1024, extractStridedSlice S1x1024 o (hot (dropN M 6)) ho⟩, ⟨S1x1024, extractStridedSlice S1x1024 o (hot (dropN M 7)) ho⟩,
    ⟨S1x1024, extractStridedSlice S1x1024 o (hot (dropN M 8)) ho⟩, ⟨S1x1024, extractStridedSlice S1x1024 o (hot (dropN M 9)) ho⟩]
    concatenates_S1x1024_S1x1024_S1x1024_S1x1024_S1x1024_S1x1024_S1x1024_S1x1024_S1x1024_S1x1024_S10x1024_d0

/-- The selected queries: channel by selection. -/
def qred (Q : FVec F S64x1024 .f32) (O : FVec F S10x1024 .f32) : FVec F S64x10 .f32 :=
  matmul dot_S64x1024_S10x1024_S64x10_1_1_0_0_n_n none Q O (constant S64x10 .f32 0x00000000#32)

/-- The scaled scores of the selected queries against every position. -/
def score (Q : FVec F S64x1024 .f32) (O : FVec F S10x1024 .f32) : FVec F S10x1024 .f32 :=
  mulf (matmul dot_S64x10_S64x1024_S10x1024_0_0_1_1_n_n none (qred Q O) Q (constant S10x1024 .f32 0x00000000#32))
    (broadcast S10x1024 (Scalar.ofBits .f32 0x3D000000#32))

/-- The exponentials of the scores less the row's largest. -/
def ex (S : FVec F S10x1024 .f32) : FVec F S10x1024 .f32 :=
  exp (subf S (broadcastTo S10x1024 (shapeCast S10x1 (multiReduction .maximumf [1] S10 S 0xFF800000#32 reduces_S10x1024_S10 (.inl rfl) rfl) shapeCasts_S10_S10x1) broadcasts_S10x1_S10x1024))

/-- The attention weights. -/
def attn (E : FVec F S10x1024 .f32) : FVec F S10x1024 .f32 :=
  divf E (broadcastTo S10x1024 (shapeCast S10x1 (multiReduction .add [1] S10 E 0x00000000#32 reduces_S10x1024_S10 (.inl rfl) rfl) shapeCasts_S10_S10x1) broadcasts_S10x1_S10x1024)

/-- The new values of the selected positions: channel by selection. -/
def upd (Q : FVec F S64x1024 .f32) (A : FVec F S10x1024 .f32) : FVec F S64x10 .f32 :=
  matmul dot_S64x1024_S10x1024_S64x10_1_1_0_0_n_n none Q A (constant S64x10 .f32 0x00000000#32)

/-- The new values put at their positions. -/
def place (U : FVec F S64x10 .f32) (O : FVec F S10x1024 .f32) : FVec F S64x1024 .f32 :=
  matmul dot_S64x10_S10x1024_S64x1024_1_0_0_1_n_n none U O (constant S64x1024 .f32 0x00000000#32)

/-- Which positions were selected. -/
def chosen (O : FVec F S10x1024 .f32) : IVec S1x1024 1 :=
  cmpf .ogt (shapeCast S1x1024 (multiReduction .add [0] S1024 O 0x00000000#32 reduces_S10x1024_S1024 (.inl rfl) rfl) shapeCasts_S1024_S1x1024)
    (broadcast S1x1024 (Scalar.ofBits .f32 0x00000000#32))

/-- The context: the new value where a position was selected, the running sum elsewhere. -/
def ctx (Q : FVec F S64x1024 .f32) (O : FVec F S10x1024 .f32) : FVec F S64x1024 .f32 :=
  select (broadcastTo S64x1024 (shapeCast S1x1024 (chosen O) shapeCasts_S1x1024_S1x1024) broadcasts_S1x1024_S64x1024)
    (place (upd Q (attn (ex (score Q O)))) O) (scan Q)

/-- What one batch stores. -/
def fin (g : Vec F S1x1 .f32) (X Q : FVec F S64x1024 .f32) (O : FVec F S10x1024 .f32) : FVec F S1x64x1024 .f32 :=
  shapeCast S1x64x1024 (addf (mulf (broadcast S64x1024 (extractAt ![0, 0] g inpos_S1x1_p0_0)) (ctx Q O)) X) shapeCasts_S64x1024_S1x64x1024

end Cert.KernelIdeal.Stage

end
-- ==== Proof.KOut.lean ====
/- What the kernel's one grid point leaves in the output's buffer: four stores, one per batch, each the
   generic stages of `KStages` applied to that batch. -/
module

public import proofs.«01_k».proof.Proof.KStages

@[expose] public section

set_option maxRecDepth 16384

noncomputable section

namespace Cert.KernelIdeal.Stage

open Idealize.ShloMosaic Idealize.SL.Sem Cert.KernelIdeal Cert.KernelIdeal.Gen

variable {F : FTy → Type} [FloatOps F]

variable (x0 : Vec F S4x64x1024 .f32) (x1 : Vec F S64x8 .f32) (x2 : Vec F S8x1 .f32) (x3 : Vec F S8x64 .f32) (x4 : Vec F S64x1 .f32) (x5 : Vec F S1x1 .f32) (x6 : Vec F S640x64 .f32)

theorem qry0 : k0_pay145 x0 x1 x2 x3 x4 x5 x6 = qry (k0_pay129 x0 x1 x2 x3 x4 x5 x6) (View.ld x1 r0_4) (View.ld x2 r0_6) (View.ld x3 r0_5) (View.ld x4 r0_7) := rfl
theorem qry1 : k0_pay146 x0 x1 x2 x3 x4 x5 x6 = qry (k0_pay130 x0 x1 x2 x3 x4 x5 x6) (View.ld x1 r0_4) (View.ld x2 r0_6) (View.ld x3 r0_5) (View.ld x4 r0_7) := rfl
theorem qry2 : k0_pay147 x0 x1 x2 x3 x4 x5 x6 = qry (k0_pay131 x0 x1 x2 x3 x4 x5 x6) (View.ld x1 r0_4) (View.ld x2 r0_6) (View.ld x3 r0_5) (View.ld x4 r0_7) := rfl
theorem qry3 : k0_pay148 x0 x1 x2 x3 x4 x5 x6 = qry (k0_pay132 x0 x1 x2 x3 x4 x5 x6) (View.ld x1 r0_4) (View.ld x2 r0_6) (View.ld x3 r0_5) (View.ld x4 r0_7) := rfl

/-- The measures of all four batches, from the four query matrices. -/
def measures : FVec F S4x1024 .f32 :=
  stack (meas (samp (k0_pay145 x0 x1 x2 x3 x4 x5 x6) (View.ld x6 r0_8))) (meas (samp (k0_pay146 x0 x1 x2 x3 x4 x5 x6) (View.ld x6 r0_8)))
    (meas (samp (k0_pay147 x0 x1 x2 x3 x4 x5 x6) (View.ld x6 r0_8))) (meas (samp (k0_pay148 x0 x1 x2 x3 x4 x5 x6) (View.ld x6 r0_8)))

theorem hots0 : k0_pay174 x0 x1 x2 x3 x4 x5 x6 = hots ![0, 0] slices_S4x1024_o0_0_S1x1024 (measures x0 x1 x2 x3 x4 x5 x6) := rfl
theorem hots1 : k0_pay175 x0 x1 x2 x3 x4 x5 x6 = hots ![1, 0] slices_S4x1024_o1_0_S1x1024 (measures x0 x1 x2 x3 x4 x5 x6) := rfl
theorem hots2 : k0_pay182 x0 x1 x2 x3 x4 x5 x6 = hots ![2, 0] slices_S4x1024_o2_0_S1x1024 (measures x0 x1 x2 x3 x4 x5 x6) := rfl
theorem hots3 : k0_pay183 x0 x1 x2 x3 x4 x5 x6 = hots ![3, 0] slices_S4x1024_o3_0_S1x1024 (measures x0 x1 x2 x3 x4 x5 x6) := rfl

theorem out_eq : out0_7 x0 x1 x2 x3 x4 x5 x6 = View.canon [
    ⟨r0_3, fin (View.ld x5 r0_9) (k0_pay132 x0 x1 x2 x3 x4 x5 x6) (k0_pay148 x0 x1 x2 x3 x4 x5 x6) (k0_pay183 x0 x1 x2 x3 x4 x5 x6)⟩,
    ⟨r0_2, fin (View.ld x5 r0_9) (k0_pay131 x0 x1 x2 x3 x4 x5 x6) (k0_pay147 x0 x1 x2 x3 x4 x5 x6) (k0_pay182 x0 x1 x2 x3 x4 x5 x6)⟩,
    ⟨r0_1, fin (View.ld x5 r0_9) (k0_pay130 x0 x1 x2 x3 x4 x5 x6) (k0_pay146 x0 x1 x2 x3 x4 x5 x6) (k0_pay175 x0 x1 x2 x3 x4 x5 x6)⟩,
    ⟨r0_0, fin (View.ld x5 r0_9) (k0_pay129 x0 x1 x2 x3 x4 x5 x6) (k0_pay145 x0 x1 x2 x3 x4 x5 x6) (k0_pay174 x0 x1 x2 x3 x4 x5 x6)⟩] := rfl

end Cert.KernelIdeal.Stage

end
-- ==== Proof.KRead.lean ====
/- The kernel's stages read at an index, over the extended reals; with finite inputs, the stages up to the queries as
   the reals of `Spec`. -/
module

public import proofs.«01_k».proof.Proof.KStages
public import proofs.«01_k».proof.Proof.Spec
public import proofs.«01_k».proof.Proof.Consts
public import Idealize.ShloMosaic.Lib.Pointwise

@[expose] public section

set_option maxRecDepth 16384

noncomputable section

namespace Cert.KernelIdeal.Stage

open Idealize.ShloMosaic Idealize.SL.Sem Cert.KernelIdeal Cert.KernelIdeal.Gen

theorem tile_at (y : FVec Ideal S1x64x1024 .f32) (k : Fin 64) (n : Fin 1024) : tile y (ix2 k n) = y (ix3 0 k n) := by
  pointwise [tile]

section reals

variable {X : FVec Ideal S64x1024 .f32} {w1 : FVec Ideal S64x8 .f32} {b1 : FVec Ideal S8x1 .f32} {w2 : FVec Ideal S8x64 .f32} {b2 : FVec Ideal S64x1 .f32}
  {x : Fin 64 → Fin 1024 → ℝ} {W1 : Fin 64 → Fin 8 → ℝ} {B1 : Fin 8 → ℝ} {W2 : Fin 8 → Fin 64 → ℝ} {B2 : Fin 64 → ℝ}
  (hX : ∀ k n, X (ix2 k n) = (x k n : EReal)) (hW1 : ∀ k j, w1 (ix2 k j) = (W1 k j : EReal)) (hB1 : ∀ j, b1 (ix2 j 0) = (B1 j : EReal))
  (hW2 : ∀ j k, w2 (ix2 j k) = (W2 j k : EReal)) (hB2 : ∀ k, b2 (ix2 k 0) = (B2 k : EReal))

include hX

theorem len_at (n : Fin 1024) : len X (ix2 0 n) = (Spec.len x n : EReal) := by
  pointwise [len]
  simp only [hX, ← EReal.coe_mul, ← Spec.coe_sum]
  exact Consts.sqrt_coe (Finset.sum_nonneg fun k _ => mul_self_nonneg _)

theorem lenInv_at (n : Fin 1024) : lenInv X (ix2 0 n) = ((Spec.len x n)⁻¹ : ℝ) := by
  pointwise [lenInv]
  rw [len_at hX]
  by_cases h : 0 < Spec.len x n
  · rw [if_pos (EReal.coe_pos.mpr h), Consts.one_div_coe h.ne']
  · have h0 : Spec.len x n = 0 := le_antisymm (not_lt.mp h) (Real.sqrt_nonneg _)
    rw [if_neg (by rw [h0]; simp), h0]; simp

theorem unitCols_at (k : Fin 64) (n : Fin 1024) : unitCols X (ix2 k n) = ((x k n * (Spec.len x n)⁻¹ : ℝ) : EReal) := by
  pointwise [unitCols]
  rw [lenInv_at hX, hX, EReal.coe_mul]

theorem adj_at (m n : Fin 1024) : adj X (ix2 m n) = (Spec.adj x m n : EReal) := by
  pointwise [adj]
  simp only [unitCols_at hX, ← EReal.coe_mul, ← Spec.coe_sum, Consts.half]
  have e : ∑ k, x k m * (Spec.len x m)⁻¹ * (x k n * (Spec.len x n)⁻¹) = Spec.cosine x m n := by
    unfold Spec.cosine Spec.dot
    rw [Finset.sum_mul]
    exact Finset.sum_congr rfl fun k _ => by ring
  rw [e]
  unfold Spec.adj
  rw [Consts.sitofp_bit]
  simp only [EReal.coe_lt_coe_iff, decide_eq_true_eq, Spec.coe_ite]
  rfl

theorem feat_at (k : Fin 64) (n : Fin 1024) : feat X (ix2 k n) = (Spec.feat x k n : EReal) := by
  have hs : sumInv X (ix2 0 n) = Ideal.div 1 (Spec.tot x n : EReal) := by
    pointwise [sumInv]
    simp only [hX, ← Spec.coe_sum]; rfl
  pointwise [feat]
  rw [hs, Consts.top, hX]
  unfold Spec.feat
  rw [Consts.safe_inv, EReal.coe_mul]

include hW1

theorem lift1_at (j : Fin 8) (n : Fin 1024) : (∑ k : Fin 64, w1 (ix2 k j) * feat X (ix2 k n)) = (Spec.lift1 x W1 j n : EReal) := by
  simp only [feat_at hX, hW1, ← EReal.coe_mul, ← Spec.coe_sum]; rfl

omit hW1 in
theorem degInv_at (n : Fin 1024) : degInv X w1 (ix2 0 n) = ((Spec.deg x n)⁻¹ : ℝ) := by
  pointwise [degInv, prop1, lift1]
  simp only [adj_at hX, ← Spec.coe_sum]
  rw [← EReal.coe_one, ← EReal.coe_add, EReal.coe_one]
  exact Consts.one_div_coe (Spec.deg_pos x n).ne'

include hB1

theorem hid_at (j : Fin 8) (n : Fin 1024) : hid X w1 b1 (ix2 j n) = (Spec.hid x W1 B1 j n : EReal) := by
  pointwise [hid, prop1, lift1]
  simp only [lift1_at hX hW1, adj_at hX, degInv_at hX, hB1, ← EReal.coe_mul, ← Spec.coe_sum, ← EReal.coe_add, ← EReal.coe_zero, ← Spec.coe_max]
  rfl

include hW2 hB2

/-- The queries of a batch, with finite inputs. -/
theorem qry_at (k : Fin 64) (n : Fin 1024) : qry X w1 b1 w2 b2 (ix2 k n) = (Spec.qry x W1 B1 W2 B2 k n : EReal) := by
  pointwise [qry, prop2]
  simp only [hid_at hX hW1 hB1, adj_at hX, degInv_at hX, hW2, hB2, ← EReal.coe_mul, ← Spec.coe_sum, ← EReal.coe_add]
  rfl

end reals

end Cert.KernelIdeal.Stage

end
-- ==== Proof.KSel.lean ====
/- The kernel's sampling, measures and selection, read at an index over the extended reals: the measure is `Spec.meas`,
   and the ten rounds of marks are one-hot at the positions `Select.sel` takes. -/
module

public import proofs.«01_k».proof.Proof.KStages
public import proofs.«01_k».proof.Proof.Spec
public import proofs.«01_k».proof.Proof.Consts
public import Idealize.ShloMosaic.Lib.Pointwise

@[expose] public section

set_option maxRecDepth 16384

noncomputable section

namespace Cert.KernelIdeal.Stage

open Idealize.ShloMosaic Idealize.SL.Sem Cert.KernelIdeal Cert.KernelIdeal.Gen

/-! The measures. -/

/-- The sampled products, where `e` holds a single one in each row: row `64 s + c` picks channel `idx c s`. -/
theorem samp_at (Q : FVec Ideal S64x1024 .f32) (e : FVec Ideal S640x64 .f32) (idx : Fin 64 → Fin 10 → Fin 64)
    (he : ∀ (s : Fin 10) (c k : Fin 64) (h : s.val * 64 + c.val < 640), e (ix2 ⟨s.val * 64 + c.val, h⟩ k) = if idx c s = k then 1 else 0)
    (s : Fin 10) (n : Fin 1024) : samp Q e (ix2 s n) = Spec.samp (fun k n => Q (ix2 k n)) idx s n := by
  pointwise [samp]
  unfold Spec.samp
  refine Finset.sum_congr rfl fun c _ => ?_
  simp only [he, ite_mul, one_mul, zero_mul, Finset.sum_ite_eq, Finset.mem_univ, if_true]

/-- The measure of a position. -/
theorem meas_at (Q : FVec Ideal S64x1024 .f32) (e : FVec Ideal S640x64 .f32) (idx : Fin 64 → Fin 10 → Fin 64)
    (he : ∀ (s : Fin 10) (c k : Fin 64) (h : s.val * 64 + c.val < 640), e (ix2 ⟨s.val * 64 + c.val, h⟩ k) = if idx c s = k then 1 else 0)
    (n : Fin 1024) : meas (samp Q e) (ix2 0 n) = Spec.meas (fun k n => Q (ix2 k n)) idx n := by
  pointwise [meas]
  simp only [samp_at Q e idx he, Consts.bot, Consts.inv64]
  rfl

/-- The rows of the stacked measures. -/
theorem stack_at (M : Fin 4 → FVec Ideal S1x1024 .f32) (b : Fin 4) (n : Fin 1024) :
    stack (M 0) (M 1) (M 2) (M 3) (ix2 b n) = M b (ix2 0 n) := by
  pointwise [stack]
  fin_vals b with hb <;> simp only [hb, Nat.reduceSub, Nat.reduceLT, ↓reduceDIte] <;>
    exact congrArg (fun k => M k (ix2 0 n)) (Fin.ext hb.symm)

/-! The selection. -/

theorem minsi_eq (x y : BitVec 32) : IntOp.minsi x y = if x.slt y then x else y := rfl

theorem cmpi_eq (x y : BitVec 32) : IntOp.cmpi .eq x y = BitVec.ofBool (decide (x = y)) := by
  show BitVec.ofBool (x == y) = _
  rw [beq_eq_decide]

/-- A minimum of words, read signed, is the least of them. -/
theorem fold_minsi {ι : Type} (f : ι → BitVec 32) (z : BitVec 32) (p : ι) (hz : (f p).toInt ≤ z.toInt)
    (hp : ∀ x, (f p).toInt ≤ (f x).toInt) (s : Finset ι) :
    (f p).toInt ≤ (s.fold IntOp.minsi z f).toInt ∧ (p ∈ s → s.fold IntOp.minsi z f = f p) := by
  classical
  induction s using Finset.induction_on with
  | empty => simp [hz]
  | insert a s ha ih =>
    obtain ⟨h1, h2⟩ := ih
    rw [Finset.fold_insert ha, minsi_eq]
    refine ⟨?_, fun hm => ?_⟩
    · split
      · exact hp a
      · exact h1
    · rcases Finset.mem_insert.mp hm with rfl | hm
      · split
        · rfl
        · rename_i h
          rw [BitVec.slt_iff_toInt_lt] at h
          exact BitVec.toInt_inj.mp (by omega)
      · rw [h2 hm]
        split
        · rename_i h
          rw [BitVec.slt_iff_toInt_lt] at h
          have := hp a
          omega
        · rfl

theorem toInt_small (n : ℕ) (h : n ≤ 1024) : (BitVec.ofNat 32 n).toInt = n := by
  rw [BitVec.toInt_ofNat']
  exact Int.bmod_eq_of_le (by norm_num) (by norm_num; omega)

/-- A row of the measures. -/
def row (M : FVec Ideal S4x1024 .f32) (b : Fin 4) (n : Fin 1024) : EReal := M (ix2 b n)

theorem atMax_at (M : FVec Ideal S4x1024 .f32) (b : Fin 4) (n : Fin 1024) :
    atMax M (ix2 b n) = BitVec.ofBool (decide (∀ m, row M b m ≤ row M b n)) := by
  pointwise [atMax]
  rw [Consts.bot]
  congr 1
  refine decide_eq_decide.mpr ⟨fun h m => ?_, fun h => ?_⟩
  · unfold row
    rw [h]
    exact Finset.le_fold_max _ |>.mpr (Or.inr ⟨m, Finset.mem_univ _, le_refl _⟩)
  · refine le_antisymm (Finset.le_fold_max _ |>.mpr (Or.inr ⟨n, Finset.mem_univ _, le_refl _⟩)) (Finset.fold_max_le _ |>.mpr ⟨bot_le, fun m _ => h m⟩)

/-- The first position of the largest measure, as a word. -/
theorem first_at (M : FVec Ideal S4x1024 .f32) (b : Fin 4) :
    first M (ix1 b) = BitVec.ofNat 32 (Select.pick (row M b)).val := by
  pointwise [first]
  simp only [atMax_at]
  set f : Fin 1024 → BitVec 32 := fun x => Scalar.select (BitVec.ofBool (decide (∀ m, row M b m ≤ row M b x))) (BitVec.ofNat 32 x.val) 1024#32 with hf
  set p := Select.pick (row M b) with hpdef
  have fp : f p = BitVec.ofNat 32 p.val := by
    have : ∀ m, row M b m ≤ row M b p := Select.le_pick (row M b)
    simp [hf, this, Scalar.select]
  have fx : ∀ x, (f p).toInt ≤ (f x).toInt := by
    intro x
    rw [fp, toInt_small _ (by omega)]
    by_cases h : ∀ m, row M b m ≤ row M b x
    · have e : f x = BitVec.ofNat 32 x.val := by simp [hf, h, Scalar.select]
      have := Select.pick_le (row M b) x h
      rw [e, toInt_small _ (by omega)]
      exact_mod_cast this
    · have e : f x = BitVec.ofNat 32 1024 := by simp [hf, h, Scalar.select]
      rw [e, toInt_small _ (by omega)]
      omega
  have hz : (f p).toInt ≤ (2147483647#32).toInt := by
    have e : (2147483647#32).toInt = 2147483647 := by decide
    rw [fp, toInt_small _ (by omega), e]; have := p.isLt; omega
  rw [(fold_minsi f _ p hz fx Finset.univ).2 (Finset.mem_univ p), fp]

theorem ofNat_inj (a b : Fin 1024) : BitVec.ofNat 32 a.val = BitVec.ofNat 32 b.val ↔ a = b := by
  refine ⟨fun h => Fin.ext ?_, fun h => by rw [h]⟩
  have := congrArg BitVec.toNat h
  simp only [BitVec.toNat_ofNat] at this
  omega

theorem mark_at (M : FVec Ideal S4x1024 .f32) (b : Fin 4) (n : Fin 1024) :
    mark M (ix2 b n) = BitVec.ofBool (decide (Select.pick (row M b) = n)) := by
  pointwise [mark]
  rw [first_at, cmpi_eq]
  exact congrArg BitVec.ofBool (decide_eq_decide.mpr ((ofNat_inj n _).trans eq_comm))

/-- The mark of a round. -/
theorem hot_at (M : FVec Ideal S4x1024 .f32) (b : Fin 4) (n : Fin 1024) :
    hot M (ix2 b n) = if Select.pick (row M b) = n then 1 else 0 := by
  pointwise [hot]
  rw [mark_at, Consts.sitofp_bit]
  simp only [decide_eq_true_eq]

/-- A round takes the picked entry away. -/
theorem row_drop (M : FVec Ideal S4x1024 .f32) (b : Fin 4) : row (drop M) b = Select.drop (row M b) := by
  funext n
  have e : drop M (ix2 b n) = if n = Select.pick (row M b) then ⊥ else M (ix2 b n) := by
    pointwise [drop]
    rw [mark_at, Consts.bot]
    by_cases h : n = Select.pick (row M b)
    · rw [if_pos h]; simp [Scalar.select, h]
    · rw [if_neg h]; simp [Scalar.select, Ne.symm h]
  exact e

theorem row_dropN (M : FVec Ideal S4x1024 .f32) (b : Fin 4) (r : ℕ) : row (dropN M r) b = Select.dropN (row M b) r := by
  induction r with
  | zero => rfl
  | succ r ih =>
    show row (drop (dropN M r)) b = Select.drop (Select.dropN (row M b) r)
    rw [row_drop, ih]

/-- The mark of round `r` stands at the position that round takes. -/
theorem hot_round (M : FVec Ideal S4x1024 .f32) (b : Fin 4) (r : ℕ) (n : Fin 1024) :
    hot (dropN M r) (ix2 b n) = if Select.sel (row M b) r = n then 1 else 0 := by
  rw [hot_at, row_dropN]; rfl

/-- The ten marks of a batch. -/
theorem hots_at (M : FVec Ideal S4x1024 .f32) (b : Fin 4) (ho : S4x1024.Slices ![b.val, 0] S1x1024) (r : Fin 10) (n : Fin 1024) :
    hots ![b.val, 0] ho M (ix2 r n) = if Select.sel (row M b) r = n then 1 else 0 := by
  rw [← hot_round]
  have hb : ∀ (h : b.val + (0 : ℕ) < 4), (⟨b.val + 0, h⟩ : Fin 4) = b := fun h => Fin.ext (by simp)
  pointwise [hots]
  fin_vals r with hr <;> simp only [hr, Nat.reduceSub, Nat.reduceLT, ↓reduceDIte, hb]

end Cert.KernelIdeal.Stage

end
-- ==== Proof.KFin.lean ====
/- The kernel's running sums, attention and context, read at an index over the extended reals. The ten doubling steps
   add up to the running sum; with one-hot marks the context is `Spec.ctx`. -/
module

public import proofs.«01_k».proof.Proof.KStages
public import proofs.«01_k».proof.Proof.Spec
public import proofs.«01_k».proof.Proof.Consts
public import Idealize.ShloMosaic.Lib.Pointwise

@[expose] public section

set_option maxRecDepth 16384

noncomputable section

namespace Cert.KernelIdeal.Stage

open Idealize.ShloMosaic Idealize.SL.Sem Cert.KernelIdeal Cert.KernelIdeal.Gen

/-! The running sums. -/

/-- The sum of the last `d` entries up to `n`. -/
def window (q : Fin 1024 → EReal) (d : ℕ) (n : Fin 1024) : EReal :=
  ∑ m ∈ Finset.univ.filter (fun m => m ≤ n ∧ n.val < m.val + d), q m

theorem window_one (q : Fin 1024 → EReal) (n : Fin 1024) : window q 1 n = q n := by
  unfold window
  have e : Finset.univ.filter (fun m : Fin 1024 => m ≤ n ∧ n.val < m.val + 1) = {n} := by
    ext m
    simp only [Finset.mem_filter, Finset.mem_univ, true_and, Finset.mem_singleton, Fin.ext_iff, Fin.le_def]
    omega
  rw [e, Finset.sum_singleton]

theorem window_all (q : Fin 1024 → EReal) (n : Fin 1024) : window q 1024 n = ∑ m ∈ Finset.univ.filter (· ≤ n), q m := by
  unfold window
  refine Finset.sum_congr ?_ fun _ _ => rfl
  ext m
  simp only [Finset.mem_filter, Finset.mem_univ, true_and, Fin.le_def]
  omega

/-- Two windows of length `d` side by side are one of length `2 d`. -/
theorem window_double (q : Fin 1024 → EReal) (d : ℕ) (n : Fin 1024) :
    (window q d n + if h : n.val < d then 0 else window q d ⟨n.val - d, by omega⟩) = window q (d + d) n := by
  unfold window
  split
  · rename_i h
    rw [add_zero]
    refine Finset.sum_congr ?_ fun _ _ => rfl
    ext m
    simp only [Finset.mem_filter, Finset.mem_univ, true_and, Fin.le_def]
    omega
  · rename_i h
    rw [← Finset.sum_union]
    · refine Finset.sum_congr ?_ fun _ _ => rfl
      ext m
      simp only [Finset.mem_union, Finset.mem_filter, Finset.mem_univ, true_and, Fin.le_def]
      omega
    · rw [Finset.disjoint_left]
      intro m
      simp only [Finset.mem_filter, Finset.mem_univ, true_and, Fin.le_def]
      omega

/-- A step that adds the entry `d` to the left doubles a window of length `d`. -/
theorem double {q : Fin 64 → Fin 1024 → EReal} {Q Q' : FVec Ideal S64x1024 .f32} (d : ℕ)
    (hQ : ∀ k n, Q (ix2 k n) = window (q k) d n)
    (h : ∀ k n, Q' (ix2 k n) = Q (ix2 k n) + if h : n.val < d then 0 else Q (ix2 k ⟨n.val - d, by omega⟩)) (k : Fin 64) (n : Fin 1024) :
    Q' (ix2 k n) = window (q k) (d + d) n := by
  rw [h, ← window_double, hQ]
  simp only [hQ]

section steps
variable (Q : FVec Ideal S64x1024 .f32) (k : Fin 64) (n : Fin 1024)
theorem step0_at : step0 Q (ix2 k n) = Q (ix2 k n) + if h : n.val < 1 then 0 else Q (ix2 k ⟨n.val - 1, by omega⟩) := by
  pointwise! [step0]
theorem step1_at : step1 Q (ix2 k n) = Q (ix2 k n) + if h : n.val < 2 then 0 else Q (ix2 k ⟨n.val - 2, by omega⟩) := by
  pointwise! [step1]
theorem step2_at : step2 Q (ix2 k n) = Q (ix2 k n) + if h : n.val < 4 then 0 else Q (ix2 k ⟨n.val - 4, by omega⟩) := by
  pointwise! [step2]
theorem step3_at : step3 Q (ix2 k n) = Q (ix2 k n) + if h : n.val < 8 then 0 else Q (ix2 k ⟨n.val - 8, by omega⟩) := by
  pointwise! [step3]
theorem step4_at : step4 Q (ix2 k n) = Q (ix2 k n) + if h : n.val < 16 then 0 else Q (ix2 k ⟨n.val - 16, by omega⟩) := by
  pointwise! [step4]
theorem step5_at : step5 Q (ix2 k n) = Q (ix2 k n) + if h : n.val < 32 then 0 else Q (ix2 k ⟨n.val - 32, by omega⟩) := by
  pointwise! [step5]
theorem step6_at : step6 Q (ix2 k n) = Q (ix2 k n) + if h : n.val < 64 then 0 else Q (ix2 k ⟨n.val - 64, by omega⟩) := by
  pointwise! [step6]
theorem step7_at : step7 Q (ix2 k n) = Q (ix2 k n) + if h : n.val < 128 then 0 else Q (ix2 k ⟨n.val - 128, by omega⟩) := by
  pointwise! [step7]
theorem step8_at : step8 Q (ix2 k n) = Q (ix2 k n) + if h : n.val < 256 then 0 else Q (ix2 k ⟨n.val - 256, by omega⟩) := by
  pointwise! [step8]
theorem step9_at : step9 Q (ix2 k n) = Q (ix2 k n) + if h : n.val < 512 then 0 else Q (ix2 k ⟨n.val - 512, by omega⟩) := by
  pointwise! [step9]
end steps

/-- The ten steps make the running sum. -/
theorem scan_at (Q : FVec Ideal S64x1024 .f32) (k : Fin 64) (n : Fin 1024) :
    scan Q (ix2 k n) = Spec.run (fun k n => Q (ix2 k n)) k n := by
  have h0 : ∀ k n, Q (ix2 k n) = window (fun m => Q (ix2 k m)) 1 n := fun k n => (window_one (fun m => Q (ix2 k m)) n).symm
  have h1 := double 1 h0 (step0_at _)
  have h2 := double 2 h1 (step1_at _)
  have h3 := double 4 h2 (step2_at _)
  have h4 := double 8 h3 (step3_at _)
  have h5 := double 16 h4 (step4_at _)
  have h6 := double 32 h5 (step5_at _)
  have h7 := double 64 h6 (step6_at _)
  have h8 := double 128 h7 (step7_at _)
  have h9 := double 256 h8 (step8_at _)
  have h10 := double 512 h9 (step9_at _)
  exact (h10 k n).trans (window_all _ n)

/-! The attention. -/

section attention
variable (Q : FVec Ideal S64x1024 .f32) (O : FVec Ideal S10x1024 .f32) (sel : Fin 10 → Fin 1024)
  (hO : ∀ r n, O (ix2 r n) = if sel r = n then 1 else 0)

/-- The float that the scores are multiplied by. -/
def scale : EReal := Ideal.ofBits .f32 0x3D000000#32

include hO

theorem score_at (r : Fin 10) (n : Fin 1024) : score Q O (ix2 r n) = Spec.score (fun k n => Q (ix2 k n)) sel scale r n := by
  pointwise [score, qred]
  simp only [hO, mul_ite, mul_one, mul_zero, Finset.sum_ite_eq, Finset.mem_univ, if_true]
  rfl

theorem ex_at (r : Fin 10) (n : Fin 1024) : ex (score Q O) (ix2 r n) = Spec.ex (fun k n => Q (ix2 k n)) sel scale r n := by
  pointwise [ex]
  simp only [score_at Q O sel hO, Consts.bot]
  rfl

theorem attn_at (r : Fin 10) (n : Fin 1024) : attn (ex (score Q O)) (ix2 r n) = Spec.attn (fun k n => Q (ix2 k n)) sel scale r n := by
  pointwise [attn]
  simp only [ex_at Q O sel hO]
  rfl

omit hO in
/-- A sum of marks is positive where one of them stands. -/
theorem marks_pos (n : Fin 1024) : (0 : EReal) < (∑ r : Fin 10, if sel r = n then (1 : EReal) else 0) ↔ ∃ r, sel r = n := by
  constructor
  · intro h
    by_contra hn
    rw [Finset.sum_eq_zero fun r _ => if_neg fun e => hn ⟨r, e⟩] at h
    exact lt_irrefl _ h
  · rintro ⟨r, e⟩
    have h0 : ∀ i : Fin 10, i ∈ Finset.univ → (0 : EReal) ≤ if sel i = n then (1 : EReal) else 0 := by
      intro i _; split
      · exact zero_le_one
      · exact le_refl _
    have h1 := Finset.single_le_sum h0 (Finset.mem_univ r)
    rw [if_pos e] at h1
    exact lt_of_lt_of_le zero_lt_one h1

/-- What a batch stores: the context times the factor, and the input added. -/
theorem fin_at (g : FVec Ideal S1x1 .f32) (X : FVec Ideal S64x1024 .f32) (k : Fin 64) (n : Fin 1024) :
    fin g X Q O (ix3 0 k n) = g (ix2 0 0) * Spec.ctx (fun k n => Q (ix2 k n)) sel scale k n + X (ix2 k n) := by
  pointwise [fin, ctx, place, upd, chosen]
  simp only [hO, attn_at Q O sel hO, scan_at, marks_pos]
  unfold Spec.ctx Spec.upd
  by_cases h : ∃ r, sel r = n
  · rw [if_pos h, if_pos h]
  · rw [if_neg h, if_neg h]

end attention

end Cert.KernelIdeal.Stage

end
-- ==== Proof.KVal.lean ====
/- What the kernel's one grid point stores, read at an index: with finite inputs, the gamma-weighted context of the
   batch's queries plus the input. -/
module

public import proofs.«01_k».proof.Proof.KOut
public import proofs.«01_k».proof.Proof.KRead
public import proofs.«01_k».proof.Proof.KSel
public import proofs.«01_k».proof.Proof.KFin
public import Idealize.ShloMosaic.Lib.Pointwise
public import Idealize.ShloMosaic.Lib.Pipeline.ValueKit

@[expose] public section

set_option maxRecDepth 16384

noncomputable section

namespace Cert.KernelIdeal.Stage

open Idealize.ShloMosaic Idealize.SL.Sem Cert.KernelIdeal Cert.KernelIdeal.Gen

variable {x0 : Vec Ideal S4x64x1024 .f32} {x1 : Vec Ideal S64x8 .f32} {x2 : Vec Ideal S8x1 .f32} {x3 : Vec Ideal S8x64 .f32} {x4 : Vec Ideal S64x1 .f32} {x5 : Vec Ideal S1x1 .f32} {x6 : Vec Ideal S640x64 .f32}

/-! The whole windows the body loads, and each batch's block of the input. -/
theorem ld1 (k : Fin 64) (j : Fin 8) : View.ld x1 r0_4 (ix2 k j) = x1 (ix2 k j) := by pointwise
theorem ld2 (j : Fin 8) : View.ld x2 r0_6 (ix2 j 0) = x2 (ix2 j 0) := by pointwise
theorem ld3 (j : Fin 8) (k : Fin 64) : View.ld x3 r0_5 (ix2 j k) = x3 (ix2 j k) := by pointwise
theorem ld4 (k : Fin 64) : View.ld x4 r0_7 (ix2 k 0) = x4 (ix2 k 0) := by pointwise
theorem ld5 : View.ld x5 r0_9 (ix2 0 0) = x5 (ix2 0 0) := by pointwise
theorem ld6 (s : Fin 640) (k : Fin 64) : View.ld x6 r0_8 (ix2 s k) = x6 (ix2 s k) := by pointwise
theorem batch0 (k : Fin 64) (n : Fin 1024) : k0_pay129 x0 x1 x2 x3 x4 x5 x6 (ix2 k n) = x0 (ix3 0 k n) := by
  rw [show k0_pay129 x0 x1 x2 x3 x4 x5 x6 = tile (View.ld x0 r0_0) from rfl, tile_at]; pointwise
theorem batch1 (k : Fin 64) (n : Fin 1024) : k0_pay130 x0 x1 x2 x3 x4 x5 x6 (ix2 k n) = x0 (ix3 1 k n) := by
  rw [show k0_pay130 x0 x1 x2 x3 x4 x5 x6 = tile (View.ld x0 r0_1) from rfl, tile_at]; pointwise
theorem batch2 (k : Fin 64) (n : Fin 1024) : k0_pay131 x0 x1 x2 x3 x4 x5 x6 (ix2 k n) = x0 (ix3 2 k n) := by
  rw [show k0_pay131 x0 x1 x2 x3 x4 x5 x6 = tile (View.ld x0 r0_2) from rfl, tile_at]; pointwise
theorem batch3 (k : Fin 64) (n : Fin 1024) : k0_pay132 x0 x1 x2 x3 x4 x5 x6 (ix2 k n) = x0 (ix3 3 k n) := by
  rw [show k0_pay132 x0 x1 x2 x3 x4 x5 x6 = tile (View.ld x0 r0_3) from rfl, tile_at]; pointwise

variable {x : Fin 4 → Fin 64 → Fin 1024 → ℝ} {W1 : Fin 64 → Fin 8 → ℝ} {B1 : Fin 8 → ℝ} {W2 : Fin 8 → Fin 64 → ℝ} {B2 : Fin 64 → ℝ}
  {idx : Fin 64 → Fin 10 → Fin 64}
  (hx : ∀ b k n, x0 (ix3 b k n) = (x b k n : EReal)) (hW1 : ∀ k j, x1 (ix2 k j) = (W1 k j : EReal)) (hB1 : ∀ j, x2 (ix2 j 0) = (B1 j : EReal))
  (hW2 : ∀ j k, x3 (ix2 j k) = (W2 j k : EReal)) (hB2 : ∀ k, x4 (ix2 k 0) = (B2 k : EReal))
  (he : ∀ (s : Fin 10) (c k : Fin 64) (h : s.val * 64 + c.val < 640), x6 (ix2 ⟨s.val * 64 + c.val, h⟩ k) = if idx c s = k then 1 else 0)

include hx hW1 hB1 hW2 hB2

/-- The query matrix of any batch's block. -/
theorem Q_at (b : Fin 4) (X : FVec Ideal S64x1024 .f32) (hX : ∀ k n, X (ix2 k n) = x0 (ix3 b k n)) :
    (fun k n => qry X (View.ld x1 r0_4) (View.ld x2 r0_6) (View.ld x3 r0_5) (View.ld x4 r0_7) (ix2 k n)) = Spec.Q x W1 B1 W2 B2 b := by
  funext k n
  exact qry_at (x := x b) (fun k n => (hX k n).trans (hx b k n)) (fun k j => (ld1 k j).trans (hW1 k j)) (fun j => (ld2 j).trans (hB1 j))
    (fun j k => (ld3 j k).trans (hW2 j k)) (fun k => (ld4 k).trans (hB2 k)) k n

include he

/-- The measures of any batch's block. -/
theorem M_at (b : Fin 4) (q : FVec Ideal S64x1024 .f32) (hq : (fun k n => q (ix2 k n)) = Spec.Q x W1 B1 W2 B2 b) (n : Fin 1024) :
    meas (samp q (View.ld x6 r0_8)) (ix2 0 n) = Spec.M x W1 B1 W2 B2 idx b n := by
  rw [meas_at q (View.ld x6 r0_8) idx (fun s c k h => (ld6 _ k).trans (he s c k h)) n, hq]
  rfl

/-- The four rows of the measures. -/
theorem measures_at (b : Fin 4) : row (measures x0 x1 x2 x3 x4 x5 x6) b = Spec.M x W1 B1 W2 B2 idx b := by
  funext n
  show stack _ _ _ _ (ix2 b n) = _
  refine (stack_at ![meas (samp (k0_pay145 x0 x1 x2 x3 x4 x5 x6) (View.ld x6 r0_8)), meas (samp (k0_pay146 x0 x1 x2 x3 x4 x5 x6) (View.ld x6 r0_8)),
    meas (samp (k0_pay147 x0 x1 x2 x3 x4 x5 x6) (View.ld x6 r0_8)), meas (samp (k0_pay148 x0 x1 x2 x3 x4 x5 x6) (View.ld x6 r0_8))] b n).trans ?_
  revert b
  refine Fin.forall_fin_succ.mpr ⟨?_, Fin.forall_fin_succ.mpr ⟨?_, Fin.forall_fin_succ.mpr ⟨?_, Fin.forall_fin_succ.mpr ⟨?_, fun i => i.elim0⟩⟩⟩⟩
  · exact M_at hx hW1 hB1 hW2 hB2 he 0 _ (Q_at hx hW1 hB1 hW2 hB2 0 _ batch0) n
  · exact M_at hx hW1 hB1 hW2 hB2 he 1 _ (Q_at hx hW1 hB1 hW2 hB2 1 _ batch1) n
  · exact M_at hx hW1 hB1 hW2 hB2 he 2 _ (Q_at hx hW1 hB1 hW2 hB2 2 _ batch2) n
  · exact M_at hx hW1 hB1 hW2 hB2 he 3 _ (Q_at hx hW1 hB1 hW2 hB2 3 _ batch3) n

/-- What any batch stores. -/
theorem stored (b : Fin 4) (ho : S4x1024.Slices ![b.val, 0] S1x1024) (X : FVec Ideal S64x1024 .f32) (hX : ∀ k n, X (ix2 k n) = x0 (ix3 b k n))
    (k : Fin 64) (n : Fin 1024) :
    fin (View.ld x5 r0_9) X (qry X (View.ld x1 r0_4) (View.ld x2 r0_6) (View.ld x3 r0_5) (View.ld x4 r0_7)) (hots ![b.val, 0] ho (measures x0 x1 x2 x3 x4 x5 x6)) (ix3 0 k n)
      = x5 (ix2 0 0) * Spec.context x W1 B1 W2 B2 idx scale b k n + x0 (ix3 b k n) := by
  rw [fin_at _ _ (Spec.sels x W1 B1 W2 B2 idx b), ld5, hX, Q_at hx hW1 hB1 hW2 hB2 b X hX]
  · rfl
  · intro r n
    rw [hots_at, measures_at hx hW1 hB1 hW2 hB2 he b]
    rfl

/-- The same, at an index `y` of the array under the block's index `z`. -/
theorem piece (b : Fin 4) (ho : S4x1024.Slices ![b.val, 0] S1x1024) (X : FVec Ideal S64x1024 .f32) (hX : ∀ k n, X (ix2 k n) = x0 (ix3 b k n))
    (y : S4x64x1024.Idx) (z : S1x64x1024.Idx) (h0 : (y 0).val = b.val) (h1 : (y 1).val = (z 1).val) (h2 : (y 2).val = (z 2).val) :
    fin (View.ld x5 r0_9) X (qry X (View.ld x1 r0_4) (View.ld x2 r0_6) (View.ld x3 r0_5) (View.ld x4 r0_7)) (hots ![b.val, 0] ho (measures x0 x1 x2 x3 x4 x5 x6)) z
      = x5 (ix2 0 0) * Spec.context x W1 B1 W2 B2 idx scale (y 0) (y 1) (y 2) + x0 y := by
  obtain ⟨k, n, rfl⟩ : ∃ k n, y = ix3 b k n := by
    refine ⟨y 1, y 2, ?_⟩
    funext a
    fin_cases a
    · exact Fin.ext h0
    · rfl
    · rfl
  obtain rfl : z = ix3 0 k n := by
    funext a
    fin_cases a
    · exact Fin.ext (by have := (z 0).isLt; change (z 0).val < 1 at this; show (z 0).val = 0; omega)
    · exact Fin.ext h1.symm
    · exact Fin.ext h2.symm
  exact stored hx hW1 hB1 hW2 hB2 he b ho X hX k n

/-- What the grid point leaves in the output's buffer. -/
theorem out_at (y : S4x64x1024.Idx) :
    out0_7 x0 x1 x2 x3 x4 x5 x6 y = x5 (ix2 0 0) * Spec.context x W1 B1 W2 B2 idx scale (y 0) (y 1) (y 2) + x0 y := by
  rw [out_eq]
  canon_tiles z hz
  · exact piece hx hW1 hB1 hW2 hB2 he 3 slices_S4x1024_o3_0_S1x1024 _ batch3 y z (by simp; omega) hz1 hz2
  · exact piece hx hW1 hB1 hW2 hB2 he 2 slices_S4x1024_o2_0_S1x1024 _ batch2 y z (by simp; omega) hz1 hz2
  · exact piece hx hW1 hB1 hW2 hB2 he 1 slices_S4x1024_o1_0_S1x1024 _ batch1 y z (by simp; omega) hz1 hz2
  · exact piece hx hW1 hB1 hW2 hB2 he 0 slices_S4x1024_o0_0_S1x1024 _ batch0 y z (by simp; omega) hz1 hz2

end Cert.KernelIdeal.Stage

end
-- ==== Proof.Table.lean ====
/- The two programs' sampling constants agree: the kernel's 640 × 64 matrix has a single one in each row, at the channel
   the reference's index table names. -/
module

public import proofs.«01_k».proof.KernelIdeal
public import proofs.«01_k».proof.ReferenceIdeal

@[expose] public section

set_option maxRecDepth 65536

noncomputable section

namespace Cert.Table

open Idealize.ShloMosaic

/-- The channel that channel `c` is multiplied with in sample `s`. -/
def idx (c : Fin 64) (s : Fin 10) : Fin 64 := ⟨(Cert.ReferenceIdeal.lit0t (c.val * 10 + s.val)).toNat % 64, Nat.mod_lt _ (by decide)⟩

/-- Every entry of the index table is a channel. -/
theorem small : ∀ c : Fin 64, ∀ s : Fin 10, (Cert.ReferenceIdeal.lit0t (c.val * 10 + s.val)).toNat < 64 := by decide +kernel

/-- An entry of the index table is that channel's word. -/
theorem idx_eq (c : Fin 64) (s : Fin 10) : Cert.ReferenceIdeal.lit0t (c.val * 10 + s.val) = BitVec.ofNat 32 (idx c s).val := by
  have h := small c s
  apply BitVec.eq_of_toNat_eq
  show _ = (BitVec.ofNat 32 ((Cert.ReferenceIdeal.lit0t (c.val * 10 + s.val)).toNat % 64)).toNat
  rw [BitVec.toNat_ofNat, Nat.mod_eq_of_lt h]
  omega

/-- The kernel's constant, one sample's rows: the word of 1.0 in the named channel's column, 0 elsewhere. -/
def Rows (s : Fin 10) : Prop := ∀ c k : Fin 64,
  Cert.KernelIdeal.lit0t ((s.val * 64 + c.val) * 64 + k.val) = if idx c s = k then 0x3F800000#32 else 0#32

instance (s : Fin 10) : Decidable (Rows s) := by unfold Rows; infer_instance

/-! Each sample's rows, one statement a sample. -/
theorem rows0 : Rows 0 := by decide +kernel
theorem rows1 : Rows 1 := by decide +kernel
theorem rows2 : Rows 2 := by decide +kernel
theorem rows3 : Rows 3 := by decide +kernel
theorem rows4 : Rows 4 := by decide +kernel
theorem rows5 : Rows 5 := by decide +kernel
theorem rows6 : Rows 6 := by decide +kernel
theorem rows7 : Rows 7 := by decide +kernel
theorem rows8 : Rows 8 := by decide +kernel
theorem rows9 : Rows 9 := by decide +kernel

/-- Every sample's rows. -/
theorem rows : ∀ s : Fin 10, Rows s := by
  intro s
  fin_cases s
  exacts [rows0, rows1, rows2, rows3, rows4, rows5, rows6, rows7, rows8, rows9]

end Cert.Table

end
-- ==== Proof.KLink.lean ====
/- The kernel's result as a function of its arguments: the blocks of the one grid point are the whole arguments, and the
   output array is what that point stores. -/
module

public import proofs.«01_k».proof.Proof.KVal
public import proofs.«01_k».proof.Proof.Table
public import proofs.«01_k».proof.Proof.Gen.KernelIdeal.Value
public import Idealize.ShloMosaic.Lib.Claim

@[expose] public section

set_option maxRecDepth 16384

noncomputable section

namespace Cert.KernelIdeal.Stage

open Idealize.ShloMosaic Idealize.SL.Sem Cert.KernelIdeal Cert.KernelIdeal.Gen

/-! Every window's block starts at the array's start. -/
theorem at0 : ∀ a, win0_0.index t0_0 a = 0 := by decide
theorem at1 : ∀ a, win0_1.index t0_0 a = 0 := by decide
theorem at2 : ∀ a, win0_2.index t0_0 a = 0 := by decide
theorem at3 : ∀ a, win0_3.index t0_0 a = 0 := by decide
theorem at4 : ∀ a, win0_4.index t0_0 a = 0 := by decide
theorem at6 : ∀ a, win0_6.index t0_0 a = 0 := by decide

variable (m : (ℓ : Loc nD τ sig) → Buf (Elt Ideal) ℓ) (c : Dev nD)

/-! Each block, read at an index, is the argument. -/
theorem blk0 (b : Fin 4) (k : Fin 64) (n : Fin 1024) : iblk m c 0 t0_0 (ix3 b k n) = m (c.tc.loc main_arg0) (ix3 b k n) := by
  blk_point [iblk, V, at0]
theorem blk1 (k : Fin 64) (j : Fin 8) : iblk m c 1 t0_0 (ix2 k j) = m (c.tc.loc main_arg1) (ix2 k j) := by
  blk_point [iblk, V, at1]
theorem blk2 (j : Fin 8) : iblk m c 2 t0_0 (ix2 j 0) = m (c.tc.loc main_arg2) (ix1 j) := by
  blk_point [iblk, V, at2]
theorem blk3 (j : Fin 8) (k : Fin 64) : iblk m c 3 t0_0 (ix2 j k) = m (c.tc.loc main_arg3) (ix2 j k) := by
  blk_point [iblk, V, at3]
theorem blk4 (k : Fin 64) : iblk m c 4 t0_0 (ix2 k 0) = m (c.tc.loc main_arg4) (ix1 k) := by
  blk_point [iblk, V, at4]
theorem blk5 : iblk m c 5 t0_0 (ix2 0 0) = m (c.tc.loc main_arg5) (ix1 0) := by
  blk_point [iblk, V]

theorem blk6 (i : Fin 640) (k : Fin 64) : iblk m c 6 t0_0 (ix2 i k) = Ideal.ofBits .f32 (lit0t (i.val * 64 + k.val)) := by
  blk_simp [iblk, V]
  entry_read
  have e : ((View.whole main_cst).slice (win0_6.rect t0_0)).emb (ix2 i k) = (ix2 i k : S640x64.Idx) := by
    blk_ext [at6]
  rw [e]
  refine congrArg (fun p : ℕ => Ideal.ofBits .f32 (lit0t p)) (?_ : (S640x64.rowMajor (ix2 i k)).val = _)
  rw [Shape.rowMajor_val_two]
  rfl

/-- The last block marks the channels of the index table. -/
theorem marks (s : Fin 10) (a k : Fin 64) (h : s.val * 64 + a.val < 640) :
    iblk m c 6 t0_0 (ix2 ⟨s.val * 64 + a.val, h⟩ k) = if Table.idx a s = k then (1 : EReal) else 0 := by
  rw [blk6, Table.rows s a k]
  split
  · simp [Ideal.ofBits, Ideal.ieee]
    rw [← EReal.coe_mul, ← EReal.coe_one]
    norm_num
  · simp [Ideal.ofBits, Ideal.ieee]

/-- The output array, with inputs that hold reals. -/
theorem array_at {x : Fin 4 → Fin 64 → Fin 1024 → ℝ} {W1 : Fin 64 → Fin 8 → ℝ} {B1 : Fin 8 → ℝ} {W2 : Fin 8 → Fin 64 → ℝ} {B2 : Fin 64 → ℝ}
    (X : FVec Ideal S4x64x1024 .f32) (g : FVec Ideal S1 .f32) (hX : m (c.tc.loc main_arg0) = X) (hg : m (c.tc.loc main_arg5) = g)
    (hx : ∀ b k n, X (ix3 b k n) = (x b k n : EReal)) (hW1 : ∀ k j, (m (c.tc.loc main_arg1) : FVec Ideal S64x8 .f32) (ix2 k j) = (W1 k j : EReal))
    (hB1 : ∀ j, (m (c.tc.loc main_arg2) : FVec Ideal S8 .f32) (ix1 j) = (B1 j : EReal))
    (hW2 : ∀ j k, (m (c.tc.loc main_arg3) : FVec Ideal S8x64 .f32) (ix2 j k) = (W2 j k : EReal))
    (hB2 : ∀ k, (m (c.tc.loc main_arg4) : FVec Ideal S64 .f32) (ix1 k) = (B2 k : EReal)) :
    (dats m 0 c).arrAt 7 cfg0.N = fun y : S4x64x1024.Idx => g (ix1 0) * Spec.context x W1 B1 W2 B2 Table.idx scale (y 0) (y 1) (y 2) + X y := by
  refine (dats m 0 c).arrAt_eq_of_after_last 7 t0_0 (by decide +kernel) _ fun j => ?_
  blk_simp
  rw [after0_7]
  have b0 : ∀ b k n, iblk m c 0 t0_0 (ix3 b k n) = X (ix3 b k n) := fun b k n => (blk0 m c b k n).trans (congrFun hX _)
  have e := out_at (fun b k n => (b0 b k n).trans (hx b k n)) (fun k j => (blk1 m c k j).trans (hW1 k j)) (fun j => (blk2 m c j).trans (hB1 j))
    (fun j k => (blk3 m c j k).trans (hW2 j k)) (fun k => (blk4 m c k).trans (hB2 k)) (fun s a k h => marks m c s a k h) (x5 := iblk m c 5 t0_0) j
  refine e.trans ?_
  obtain ⟨b, k, n, rfl⟩ : ∃ b k n, j = (ix3 b k n : S4x64x1024.Idx) := ⟨j 0, j 1, j 2, by funext a; fin_cases a <;> rfl⟩
  rw [b0, blk5, hg]

end Cert.KernelIdeal.Stage

end
-- ==== Proof.RStages.lean ====
/- The reference's stages as functions of matrices of a plain shape, and its named terms written with them. -/
module

public import proofs.«01_k».proof.Proof.Gen.ReferenceIdeal.Run

@[expose] public section

set_option maxRecDepth 16384

noncomputable section

namespace Cert.ReferenceIdeal.Stage

open Idealize.ShloMosaic Idealize.SL.Sem Cert.ReferenceIdeal Cert.ReferenceIdeal.Gen Cert.ReferenceIdeal.Value

variable {F : FTy → Type} [FloatOps F]

/-- The diagonal matrices of a batch of vectors, an infinite entry put to zero. -/
def diag (D : FVec F S4x1024 .f32) : FVec F S4x1024x1024 .f32 :=
  select (broadcastInDim S4x1024x1024 ![1, 2] bcast_S1024x1024_S4x1024x1024_1_2 (cmpi .eq (addi (iotaInDim S1024x1024 32 0) (broadcastInDim S1024x1024 ![] bcast_S_S1024x1024 (constantI S_ 32 0#32))) (iotaInDim S1024x1024 32 1)))
    (broadcastInDim S4x1024x1024 ![0, 1, 2] bcast_S4x1024x1_S4x1024x1024_0_1_2 (broadcastInDim S4x1024x1 ![0, 1] bcast_S4x1024_S4x1024x1_0_1
      (pad S4x1024 ![0, 0] ![0, 0] ![0, 0] (select (cmpf .oeq (Host.absf D) (broadcastInDim S4x1024 ![] bcast_S_S4x1024 (constant S_ .f32 0x7F800000#32))) (broadcastInDim S4x1024 ![] bcast_S_S4x1024 (id (constant S_ .f32 0x00000000#32))) D) (constant S_ .f32 0x00000000#32) pads_S4x1024_S4x1024_000_000 h_S_)))
    (broadcastInDim S4x1024x1024 ![1, 2] bcast_S1024x1024_S4x1024x1024_1_2 (broadcastInDim S1024x1024 ![] bcast_S_S1024x1024 (constant S_ .f32 0x00000000#32)))

/-- A diagonal matrix times a square one. -/
def scaled (D A : FVec F S4x1024x1024 .f32) : FVec F S4x1024x1024 .f32 :=
  Host.dotGeneral dot_S4x1024x1024_S4x1024x1024_S4x1024x1024_2_1_1_2_0_0 none D A

/-- A diagonal matrix times the input. -/
def feats (D : FVec F S4x1024x1024 .f32) (X : FVec F S4x1024x64 .f32) : FVec F S4x1024x64 .f32 :=
  Host.dotGeneral dot_S4x1024x1024_S4x1024x64_S4x1024x64_2_1_1_2_0_0 none D X

/-- The hidden layer. -/
def hidden (A : FVec F S4x1024x1024 .f32) (X : FVec F S4x1024x64 .f32) (w1 : FVec F S64x8 .f32) (b1 : FVec F S8 .f32) : FVec F S4x1024x8 .f32 :=
  maximumf (addf (Host.dotGeneral dot_S4x1024x1024_S4x1024x8_S4x1024x8_2_1_1_2_0_0 none A (Host.dotGeneral dot_S4x1024x64_S64x8_S4x1024x8_2_0_01_1_n_n none X w1))
    (broadcastInDim S4x1024x8 ![0, 1, 2] bcast_S1x1x8_S4x1024x8_0_1_2 (broadcastInDim S1x1x8 ![2] bcast_S8_S1x1x8_2 b1))) (broadcastInDim S4x1024x8 ![] bcast_S_S4x1024x8 (constant S_ .f32 0x00000000#32))

/-- The queries. -/
def queries (A : FVec F S4x1024x1024 .f32) (H : FVec F S4x1024x8 .f32) (w2 : FVec F S8x64 .f32) (b2 : FVec F S64 .f32) : FVec F S4x1024x64 .f32 :=
  addf (Host.dotGeneral dot_S4x1024x1024_S4x1024x64_S4x1024x64_2_1_1_2_0_0 none A (Host.dotGeneral dot_S4x1024x8_S8x64_S4x1024x64_2_0_01_1_n_n none H w2))
    (broadcastInDim S4x1024x64 ![0, 1, 2] bcast_S1x1x64_S4x1024x64_0_1_2 (broadcastInDim S1x1x64 ![2] bcast_S64_S1x1x64_2 b2))

/-- Where the updates go: a batch and a position for each. -/
def places (w : IVec S4x1 32) (i : IVec S4x10 32) : IVec S4x10x2 32 :=
  concatenate S4x10x2 2
    [⟨S4x10x1, broadcastInDim S4x10x1 ![0, 1] bcast_S4x10_S4x10x1_0_1 (broadcastInDim S4x10 ![0, 1] bcast_S4x1_S4x10_0_1
      (select (cmpi .slt w (broadcastInDim S4x1 ![] bcast_S_S4x1 (constantI S_ 32 0#32))) (addi w (broadcastInDim S4x1 ![] bcast_S_S4x1 (constantI S_ 32 4#32))) w))⟩,
     ⟨S4x10x1, broadcastInDim S4x10x1 ![0, 1] bcast_S4x10_S4x10x1_0_1
      (select (cmpi .slt i (broadcastInDim S4x10 ![] bcast_S_S4x10 (constantI S_ 32 0#32))) (addi i (broadcastInDim S4x10 ![] bcast_S_S4x10 (constantI S_ 32 1024#32))) i)⟩]
    concatenates_S4x10x1_S4x10x1_S4x10x2_d2

/-- The selected positions' new values, from the exponentials and the queries. -/
def updates (E : FVec F S4x10x1024 .f32) (q : FVec F S4x1024x64 .f32) : FVec F S4x10x64 .f32 :=
  Host.dotGeneral dot_S4x10x1024_S4x1024x64_S4x10x64_2_1_1_2_0_0 none
    (Host.divf E (broadcastInDim S4x10x1024 ![0, 1, 2] bcast_S4x10x1_S4x10x1024_0_1_2 (broadcastInDim S4x10x1 ![0, 1] bcast_S4x10_S4x10x1_0_1
      (Host.reduceAdd E (constant S_ .f32 0x00000000#32) reducesTo_S4x10x1024_S4x10_d2 h_S_)))) q

/-- The running sums of the queries. -/
def sums (q : FVec F S4x1024x64 .f32) : FVec F S4x1024x64 .f32 :=
  Host.reduceWindowAdd ![1, 1024, 1] ![1, 1, 1] ![0, 1023, 0] ![0, 0, 0] q (broadcastInDim S_ ![] bcast_S_S_ (constant S_ .f32 0x00000000#32))
    reduceWindows_S4x1024x64_S4x1024x64_w1s1p0_0_w1024s1p1023_0_w1s1p0_0 h_S_

/-- The context: the running sums with the updates put in their places. -/
def merged (s : FVec F S4x1024x64 .f32) (p : IVec S4x10x2 32) (u : FVec F S4x10x64 .f32) : FVec F S4x1024x64 .f32 :=
  Host.scatter scatter_S4x1024x64_S4x10x2_S4x10x64_2_01_01_2 (fun _ b => b) s p u

/-- The result, from the context. -/
def result (g : FVec F S1 .f32) (C : FVec F S4x1024x64 .f32) (X : FVec F S4x64x1024 .f32) : FVec F S4x64x1024 .f32 :=
  addf (mulf (broadcastInDim S4x64x1024 ![0, 1, 2] bcast_S1x1x1_S4x64x1024_0_1_2 (broadcastInDim S1x1x1 ![2] bcast_S1_S1x1x1_2 g))
    (transpose S4x64x1024 [0, 2, 1] C transposes_S4x1024x64_S4x64x1024_0_2_1)) X

variable (V : Valuation τ sig (Elt F))

theorem v45_eq : res_main_v45 V = scaled (diag (res_main_v41 V)) (res_main_v38 V) := rfl
theorem v56_eq : res_main_v56 V = queries (res_main_v45 V) (hidden (res_main_v45 V) (feats (diag (res_main_v25 V)) (res_main_v0 V)) (V (Proc.devRef .tc main_arg1)) (V (Proc.devRef .tc main_arg2)))
    (V (Proc.devRef .tc main_arg3)) (V (Proc.devRef .tc main_arg4)) := rfl

/-- The reference's result. -/
def value : FVec F S4x64x1024 .f32 :=
  result (V (Proc.devRef .tc main_arg5)) (merged (sums (res_main_v56 V)) (places (res_main_v88 V) (res_main_indices V)) (updates (res_main_v81 V) (res_main_v56 V)))
    (V (Proc.devRef .tc main_arg0))

end Cert.ReferenceIdeal.Stage

end
-- ==== Proof.RRead.lean ====
/- The reference's queries, read at an index over the extended reals: with finite inputs whose columns are zero or not
   too short they are the reals of `Spec`. -/
module

public import proofs.«01_k».proof.Proof.RStages
public import proofs.«01_k».proof.Proof.Spec
public import proofs.«01_k».proof.Proof.Consts
public import Idealize.ShloMosaic.Lib.Pointwise

@[expose] public section

set_option maxRecDepth 16384

noncomputable section

namespace Cert.ReferenceIdeal.Stage

open Idealize.ShloMosaic Idealize.SL.Sem Cert.ReferenceIdeal Cert.ReferenceIdeal.Value

variable {V : Valuation τ sig (Elt Ideal)} {x : Fin 4 → Fin 64 → Fin 1024 → ℝ} {W1 : Fin 64 → Fin 8 → ℝ} {B1 : Fin 8 → ℝ} {W2 : Fin 8 → Fin 64 → ℝ} {B2 : Fin 64 → ℝ}

/-- The inputs hold reals: the batches, the two layers' weights and biases. -/
structure Holds (V : Valuation τ sig (Elt Ideal)) (x : Fin 4 → Fin 64 → Fin 1024 → ℝ) (W1 : Fin 64 → Fin 8 → ℝ) (B1 : Fin 8 → ℝ)
    (W2 : Fin 8 → Fin 64 → ℝ) (B2 : Fin 64 → ℝ) : Prop where
  /-- Every column is zero or of a squared length of at least the float nearest 1e-8. -/
  col : ∀ b n, Spec.dot (x b) n n = 0 ∨ Consts.tiny ≤ Spec.dot (x b) n n
  x : ∀ b k n, (V (Proc.devRef .tc main_arg0) : FVec Ideal S4x64x1024 .f32) (ix3 b k n) = (x b k n : EReal)
  W1 : ∀ k j, (V (Proc.devRef .tc main_arg1) : FVec Ideal S64x8 .f32) (ix2 k j) = (W1 k j : EReal)
  B1 : ∀ j, (V (Proc.devRef .tc main_arg2) : FVec Ideal S8 .f32) (ix1 j) = (B1 j : EReal)
  W2 : ∀ j k, (V (Proc.devRef .tc main_arg3) : FVec Ideal S8x64 .f32) (ix2 j k) = (W2 j k : EReal)
  B2 : ∀ k, (V (Proc.devRef .tc main_arg4) : FVec Ideal S64 .f32) (ix1 k) = (B2 k : EReal)

variable (h : Holds V x W1 B1 W2 B2)
include h

theorem v0_at (b : Fin 4) (n : Fin 1024) (k : Fin 64) : res_main_v0 V (ix3 b n k) = (x b k n : EReal) := by
  rw [← h.x]
  pointwise [res_main_v0]

theorem v3_at (b : Fin 4) (n : Fin 1024) : res_main_v3 V (ix2 b n) = (Spec.len (x b) n : EReal) := by
  pointwise [res_main_v3]
  simp only [v0_at h, ← EReal.coe_mul, ← Spec.coe_sum]
  exact Consts.sqrt_coe (Finset.sum_nonneg fun k _ => mul_self_nonneg _)

/-- The edges, as words. -/
theorem v15_at (b : Fin 4) (m n : Fin 1024) :
    res_main_v15 V (ix3 b m n) = BitVec.setWidth 32 (BitVec.ofBool (decide ((1 / 2 : ℝ) < Spec.cosine (x b) m n))) := by
  pointwise [res_main_v15]
  have e : max (Spec.len (x b) m * Spec.len (x b) n) Consts.tiny ≠ 0 := (lt_of_lt_of_le Consts.tiny_pos (le_max_right _ _)).ne'
  simp only [v0_at h, v3_at h, Consts.half, Consts.tiny_eq, ← EReal.coe_mul, ← Spec.coe_sum, ← Spec.coe_max]
  rw [Ideal.div_coe e, one_div (max _ _), ← EReal.coe_mul]
  simp only [EReal.coe_lt_coe_iff]
  rw [← Spec.cosine_guard (x b) Consts.tiny Consts.tiny_pos (h.col b) m n, Spec.dot]

theorem v16_at (b : Fin 4) (m n : Fin 1024) : res_main_v16 V (ix3 b m n) = res_main_v15 V (ix3 b m n) := by
  rw [v15_at h, Spec.cosine_comm, ← v15_at h]
  pointwise [res_main_v16]

theorem v18_at (b : Fin 4) (m n : Fin 1024) : res_main_v18 V (ix3 b m n) = 0#32 := by
  pointwise [res_main_v18]
  rw [v16_at h]
  have e : ∀ a : BitVec 32, IntOp.cmpi .sgt a a = 0#1 := fun a => by
    show BitVec.ofBool (a.slt a) = 0#1
    rw [BitVec.slt_eq_decide]; simp
  rw [e]; rfl

omit h in
/-- The identity matrix's mark. -/
theorem eye_at (m n : Fin 1024) :
    IntOp.cmpi CmpIPredicate.eq (IntOp.addi (BitVec.ofNat 32 m.val) 0#32) (BitVec.ofNat 32 n.val) = BitVec.ofBool (decide (m = n)) := by
  have e : IntOp.addi (BitVec.ofNat 32 m.val) 0#32 = BitVec.ofNat 32 m.val := by simp [IntOp.addi]
  rw [e]
  show BitVec.ofBool (BitVec.ofNat 32 m.val == BitVec.ofNat 32 n.val) = _
  rw [beq_eq_decide]
  refine congrArg BitVec.ofBool (decide_eq_decide.mpr ⟨fun h => Fin.ext ?_, fun h => by rw [h]⟩)
  have := congrArg BitVec.toNat h
  simp only [BitVec.toNat_ofNat] at this
  omega

/-- The adjacency with a loop at every node. -/
theorem v38_at (b : Fin 4) (m n : Fin 1024) :
    res_main_v38 V (ix3 b m n) = ((Spec.adj (x b) m n + if m = n then 1 else 0 : ℝ) : EReal) := by
  pointwise [res_main_v38]
  have e : ∀ a : BitVec 32, IntOp.subi (IntOp.addi a (IntOp.muli a 0#32)) (IntOp.muli a 0#32) = a := fun a => by
    simp [IntOp.subi, IntOp.addi, IntOp.muli]
  rw [v16_at h, v18_at h, e, v15_at h, eye_at, Consts.sitofp_bit, Consts.uitofp_bit, EReal.coe_add, Spec.coe_ite]
  unfold Spec.adj
  rw [Spec.coe_ite]
  simp only [decide_eq_true_eq]
  rfl

theorem v41_at (b : Fin 4) (n : Fin 1024) : res_main_v41 V (ix2 b n) = (((Spec.deg (x b) n)⁻¹ : ℝ) : EReal) := by
  pointwise [res_main_v41]
  simp only [v38_at h, ← Spec.coe_sum, Consts.negOne]
  rw [Consts.pow_neg_one]
  congr 2
  unfold Spec.deg
  rw [Finset.sum_add_distrib, Finset.sum_ite_eq]
  simp only [Finset.mem_univ, if_true, Spec.adj_comm (x b) n]

theorem v25_at (b : Fin 4) (n : Fin 1024) : res_main_v25 V (ix2 b n) = (((Spec.tot (x b) n)⁻¹ : ℝ) : EReal) := by
  pointwise [res_main_v25]
  simp only [v0_at h, ← Spec.coe_sum, Consts.negOne]
  rw [Consts.pow_neg_one]
  rfl

omit h in
/-- The diagonal matrix of finite entries. -/
theorem diag_at (D : FVec Ideal S4x1024 .f32) (d : Fin 1024 → ℝ) (b : Fin 4) (hD : ∀ n, D (ix2 b n) = (d n : EReal)) (m n : Fin 1024) :
    diag D (ix3 b m n) = if m = n then (d m : EReal) else 0 := by
  pointwise [diag]
  rw [eye_at, hD, if_neg (by rw [Consts.top]; exact Consts.absf_coe _)]
  by_cases hn : m = n
  · rw [if_pos hn]; simp [Scalar.select, hn]
  · rw [if_neg hn]; simp [Scalar.select, hn]

/-- The normalised adjacency. -/
theorem v45_at (b : Fin 4) (m n : Fin 1024) :
    res_main_v45 V (ix3 b m n) = (((Spec.deg (x b) m)⁻¹ * (Spec.adj (x b) m n + if m = n then 1 else 0) : ℝ) : EReal) := by
  rw [v45_eq]
  pointwise [scaled]
  simp only [diag_at _ _ b (v41_at h b), ite_mul, zero_mul, Finset.sum_ite_eq, Finset.mem_univ, if_true]
  rw [v38_at h, EReal.coe_mul]

theorem feats_at (b : Fin 4) (n : Fin 1024) (k : Fin 64) :
    feats (diag (res_main_v25 V)) (res_main_v0 V) (ix3 b n k) = (Spec.feat (x b) k n : EReal) := by
  pointwise [feats]
  simp only [diag_at _ _ b (v25_at h b), ite_mul, zero_mul, Finset.sum_ite_eq, Finset.mem_univ, if_true]
  rw [v0_at h, ← EReal.coe_mul, mul_comm]
  rfl

theorem hidden_at (b : Fin 4) (n : Fin 1024) (j : Fin 8) :
    hidden (res_main_v45 V) (feats (diag (res_main_v25 V)) (res_main_v0 V)) (V (Proc.devRef .tc main_arg1)) (V (Proc.devRef .tc main_arg2)) (ix3 b n j)
      = (Spec.hid (x b) W1 B1 j n : EReal) := by
  pointwise [hidden]
  simp only [v45_at h, feats_at h, h.W1, h.B1, ← EReal.coe_mul, ← Spec.coe_sum, ← EReal.coe_add, ← EReal.coe_zero, ← Spec.coe_max, Spec.propagate]
  simp only [Spec.hid, Spec.lift1, mul_comm (W1 _ _)]

/-- The queries of a batch. -/
theorem v56_at (b : Fin 4) (n : Fin 1024) (k : Fin 64) : res_main_v56 V (ix3 b n k) = Spec.Q x W1 B1 W2 B2 b k n := by
  rw [v56_eq]
  pointwise [queries]
  simp only [v45_at h, hidden_at h, h.W2, h.B2, ← EReal.coe_mul, ← Spec.coe_sum, ← EReal.coe_add, Spec.propagate, Spec.lift_swap]
  rfl

end Cert.ReferenceIdeal.Stage

end
-- ==== Proof.RGather.lean ====
/- The reference's two gathers read at an index. -/
module

public import proofs.«01_k».proof.Proof.Gen.ReferenceIdeal
public import Idealize.ShloMosaic.Lib.Routing.Ops
public import Idealize.ShloMosaic.Lib.StableHlo.Predicate
public import Idealize.ShloMosaic.Lib.Pointwise

@[expose] public section

set_option maxRecDepth 16384

noncomputable section

namespace Cert.ReferenceIdeal.Stage

open Idealize.ShloMosaic Idealize.SL.Sem Cert.ReferenceIdeal Cert.ReferenceIdeal.Gen

/-- The sampled queries: entry `(b, n, c, s)` is the operand's entry `(b, n, j)`, where the index at `(c, s)` is `j`. -/
theorem gather_channels {α : Type} (x : S4x1024x64.Idx → α) (idx : IVec S64x10x1 32) (b : Fin 4) (n : Fin 1024) (c : Fin 64) (s : Fin 10) (j : Fin 64)
    (hj : idx (ix3 c s 0) = BitVec.ofNat 32 j.val) :
    Host.gather gather_S4x1024x64_S64x10x1_S4x1024x64x10_01_2_n_n_2_2_410241 x idx (ix4 b n c s) = x (ix3 b n j) := by
  set d := gather_S4x1024x64_S64x10x1_S4x1024x64x10_01_2_n_n_2_2_410241 with hd
  unfold Host.gather
  refine congrArg x (funext fun a => Fin.ext ?_)
  show d.start (ix4 b n c s) idx a + d.batchCoord (ix4 b n c s) a + d.offCoord (ix4 b n c s) a = (ix3 b n j a).val
  rw [GatherDims.batchCoord_eq_zero _ _ _ List.not_mem_nil, Nat.add_zero]
  match a with
  | ⟨0, _⟩ =>
    have hm : (0 : Fin 3) ∉ d.startIndexMap := by decide
    show d.start (ix4 b n c s) idx 0 + d.offCoord (ix4 b n c s) 0 = b.val
    unfold GatherDims.start
    rw [dif_neg hm, Nat.zero_add]
    rfl
  | ⟨1, _⟩ =>
    have hm : (1 : Fin 3) ∉ d.startIndexMap := by decide
    show d.start (ix4 b n c s) idx 1 + d.offCoord (ix4 b n c s) 1 = n.val
    unfold GatherDims.start
    rw [dif_neg hm, Nat.zero_add]
    rfl
  | ⟨2, _⟩ =>
    have hk : (2 : Fin 3) ∉ d.sKept := by decide
    show d.start (ix4 b n c s) idx 2 + d.offCoord (ix4 b n c s) 2 = j.val
    rw [GatherDims.offCoord_eq_zero _ _ _ hk, Nat.add_zero]
    have hm : (2 : Fin 3) ∈ d.startIndexMap := by decide
    unfold GatherDims.start
    rw [dif_pos hm]
    have hsi : d.siIdx (ix4 b n c s) ⟨d.startIndexMap.idxOf 2, List.idxOf_lt_length_iff.2 hm⟩ = ix3 c s 0 := by
      funext b'
      apply Fin.ext
      match b' with
      | ⟨0, _⟩ => rfl
      | ⟨1, _⟩ => rfl
      | ⟨2, _⟩ => rfl
    rw [hsi, hj, StableHlo.Predicate.toInt_ofNat_small _ (by omega)]
    show min ((j.val : Int)).toNat (64 - 1) = j.val
    omega

/-- The selected queries: entry `(b, r, k)` is the operand's entry `(b, p, k)`, where the index at `(b, r)` is `p`. -/
theorem gather_positions {α : Type} (x : S4x1024x64.Idx → α) (idx : IVec S4x10x1 32) (b : Fin 4) (r : Fin 10) (k : Fin 64) (p : Fin 1024)
    (hp : idx (ix3 b r 0) = BitVec.ofNat 32 p.val) :
    Host.gather gather_S4x1024x64_S4x10x1_S4x10x64_2_1_0_0_1_2_1164 x idx (ix3 b r k) = x (ix3 b p k) := by
  set d := gather_S4x1024x64_S4x10x1_S4x10x64_2_1_0_0_1_2_1164 with hd
  unfold Host.gather
  refine congrArg x (funext fun a => Fin.ext ?_)
  show d.start (ix3 b r k) idx a + d.batchCoord (ix3 b r k) a + d.offCoord (ix3 b r k) a = (ix3 b p k a).val
  match a with
  | ⟨0, _⟩ =>
    have hk : (0 : Fin 3) ∉ d.sKept := by decide
    show d.start (ix3 b r k) idx 0 + d.batchCoord (ix3 b r k) 0 + d.offCoord (ix3 b r k) 0 = b.val
    rw [GatherDims.offCoord_eq_zero _ _ _ hk, Nat.add_zero]
    unfold GatherDims.start
    rw [dif_neg (by decide), Nat.zero_add]
    rfl
  | ⟨1, _⟩ =>
    have hk : (1 : Fin 3) ∉ d.sKept := by decide
    show d.start (ix3 b r k) idx 1 + d.batchCoord (ix3 b r k) 1 + d.offCoord (ix3 b r k) 1 = p.val
    rw [GatherDims.offCoord_eq_zero _ _ _ hk, GatherDims.batchCoord_eq_zero _ _ _ (by decide)]
    simp only [Nat.add_zero]
    have hm : (1 : Fin 3) ∈ d.startIndexMap := by decide
    unfold GatherDims.start
    rw [dif_pos hm]
    have hsi : d.siIdx (ix3 b r k) ⟨d.startIndexMap.idxOf 1, List.idxOf_lt_length_iff.2 hm⟩ = ix3 b r 0 := by
      funext b'
      apply Fin.ext
      match b' with
      | ⟨0, _⟩ => rfl
      | ⟨1, _⟩ => rfl
      | ⟨2, _⟩ => rfl
    rw [hsi, hp, StableHlo.Predicate.toInt_ofNat_small _ (by omega)]
    show min ((p.val : Int)).toNat (1024 - 1) = p.val
    omega
  | ⟨2, _⟩ =>
    have hm : (2 : Fin 3) ∉ d.startIndexMap := by decide
    have hb : (2 : Fin 3) ∉ d.operandBatchingDims := by decide
    show d.start (ix3 b r k) idx 2 + d.batchCoord (ix3 b r k) 2 + d.offCoord (ix3 b r k) 2 = k.val
    rw [GatherDims.batchCoord_eq_zero _ _ _ hb, Nat.add_zero]
    unfold GatherDims.start
    rw [dif_neg hm, Nat.zero_add]
    rfl

end Cert.ReferenceIdeal.Stage

end
-- ==== Proof.RSel.lean ====
/- The reference's measures, selected positions and attention, read at an index over the extended reals. -/
module

public import proofs.«01_k».proof.Proof.RRead
public import proofs.«01_k».proof.Proof.RGather
public import proofs.«01_k».proof.Proof.Table
public import Idealize.ShloMosaic.Lib.Tactic.CleanTypes

@[expose] public section

set_option maxRecDepth 16384

noncomputable section

namespace Cert.ReferenceIdeal.Stage

open Idealize.ShloMosaic Idealize.SL.Sem Cert.ReferenceIdeal Cert.ReferenceIdeal.Value

/-- The float that the scores are multiplied by. -/
def scale : EReal := Ideal.ofBits .f32 0x3D000000#32

variable {V : Valuation τ sig (Elt Ideal)} {x : Fin 4 → Fin 64 → Fin 1024 → ℝ} {W1 : Fin 64 → Fin 8 → ℝ} {B1 : Fin 8 → ℝ} {W2 : Fin 8 → Fin 64 → ℝ} {B2 : Fin 64 → ℝ}

/-- The index table, as the gather reads it. -/
theorem table_at (c : Fin 64) (s : Fin 10) :
    broadcastInDim S64x10x1 ![0, 1] Gen.bcast_S64x10_S64x10x1_0_1
      (select (constantI S64x10 1 0#1) (addi (res_main_c V) (broadcastInDim S64x10 ![] Gen.bcast_S_S64x10 (constantI S_ 32 64#32))) (res_main_c V))
      (ix3 c s 0) = BitVec.ofNat 32 (Table.idx c s).val := by
  pointwise [res_main_c]
  refine Eq.trans (show _ = lit0t (S64x10.rowMajor (ix2 c s)).val from rfl) ?_
  rw [Shape.rowMajor_val_two]
  exact Table.idx_eq c s

variable (h : Holds V x W1 B1 W2 B2)
include h

/-- The sampled products. -/
theorem v62_at (b : Fin 4) (n : Fin 1024) (s : Fin 10) :
    res_main_v62 V (ix3 b n s) = Spec.samp (Spec.Q x W1 B1 W2 B2 b) Table.idx s n := by
  unfold res_main_v62; clean_types; pointwise
  refine Finset.sum_congr rfl fun c _ => ?_
  rw [gather_channels _ _ b n c s (Table.idx c s) (table_at c s), v56_at h, v56_at h, mul_comm]

/-- The measures. -/
theorem v67_at (b : Fin 4) (n : Fin 1024) : res_main_v67 V (ix2 b n) = Spec.M x W1 B1 W2 B2 Table.idx b n := by
  unfold res_main_v67; clean_types; pointwise
  simp only [v62_at h, Consts.bot, Consts.c64]
  rw [Ideal.div_coe (by norm_num)]
  rfl

/-- The selected positions, as words. -/
theorem indices_at (b : Fin 4) (r : Fin 10) :
    res_main_indices V (ix2 b r) = BitVec.ofNat 32 (Spec.sels x W1 B1 W2 B2 Table.idx b r).val := by
  unfold res_main_indices; clean_types; pointwise [Host.topK, Host.sort2]
  have hrow : ∀ k : Fin 1024, res_main_v67 V ((ix2 b (⟨r.val, by omega⟩ : Fin 1024)).along 1 k) = Spec.M x W1 B1 W2 B2 Table.idx b k := by
    intro k
    rw [← v67_at h]
    refine congrArg (res_main_v67 V) (funext fun a => ?_)
    match a with
    | ⟨0, _⟩ => exact Function.update_of_ne (show (0 : Fin 2) ≠ 1 by decide) _ _
    | ⟨1, _⟩ => exact Function.update_self _ _ _
  have e := Select.sortedFrom_value (Spec.M x W1 B1 W2 B2 Table.idx b) (Spec.M_ne_bot x W1 B1 W2 B2 Table.idx b) r
  have ha : ∀ p : Fin 1024, ((ix2 b (⟨r.val, by omega⟩ : Fin 1024) : S4x1024.Idx).along 1 p) 1 = p := fun p => Function.update_self _ _ _
  rw [ha]
  simp only [hrow]
  exact congrArg (fun p : Fin 1024 => BitVec.ofNat 32 p.val) e

omit h in
/-- A position's word is not negative. -/
theorem position_slt (p : Fin 1024) : IntOp.cmpi .slt (BitVec.ofNat 32 p.val) 0#32 = 0#1 := by
  unfold IntOp.cmpi
  refine congrArg BitVec.ofBool (decide_eq_false ?_)
  rw [StableHlo.Predicate.toInt_ofNat_small p.val (by omega)]
  show ¬ ((p.val : Int) < 0)
  omega

omit h in
/-- A position's word is within the array. -/
theorem position_bounds (p : Fin 1024) :
    IntOp.andi (IntOp.cmpi .sge (BitVec.ofNat 32 p.val) 0#32) (IntOp.cmpi .sle (BitVec.ofNat 32 p.val) 1023#32) = 1#1 := by
  have h1 : IntOp.cmpi .sge (BitVec.ofNat 32 p.val) 0#32 = 1#1 := by
    unfold IntOp.cmpi
    refine congrArg BitVec.ofBool (decide_eq_true ?_)
    rw [StableHlo.Predicate.toInt_ofNat_small p.val (by omega)]
    show (0 : Int) ≤ (p.val : Int)
    omega
  have h2 : IntOp.cmpi .sle (BitVec.ofNat 32 p.val) 1023#32 = 1#1 := by
    unfold IntOp.cmpi
    refine congrArg BitVec.ofBool (decide_eq_true ?_)
    rw [StableHlo.Predicate.toInt_ofNat_small p.val (by omega)]
    show (p.val : Int) ≤ 1023
    omega
  rw [h1, h2]
  rfl

/-- The selected positions, as the gather reads them. -/
theorem call7_at (b : Fin 4) (r : Fin 10) :
    res_main_call7_v4 V (ix3 b r 0) = BitVec.ofNat 32 (Spec.sels x W1 B1 W2 B2 Table.idx b r).val := by
  unfold res_main_call7_v4 res_main_v68; clean_types; pointwise
  rw [indices_at h, position_slt]
  rfl

/-- The scores of the selected positions. -/
theorem v73_at (b : Fin 4) (r : Fin 10) (n : Fin 1024) :
    res_main_v73 V (ix3 b r n) = Spec.score (Spec.Q x W1 B1 W2 B2 b) (Spec.sels x W1 B1 W2 B2 Table.idx b) scale r n := by
  unfold res_main_v73; clean_types; pointwise
  simp only [Finset.univ_unique, Finset.fold_singleton]
  have e : res_main_call7_v4 V (ix3 b r default) = BitVec.ofNat 32 (Spec.sels x W1 B1 W2 B2 Table.idx b r).val := call7_at h b r
  rw [e, position_bounds]
  refine congrArg (· * scale) (Finset.sum_congr rfl fun c _ => ?_)
  rw [gather_positions _ _ b r c _ (call7_at h b r), v56_at h, v56_at h]
  rfl

/-- Their exponentials. -/
theorem v81_at (b : Fin 4) (r : Fin 10) (n : Fin 1024) :
    res_main_v81 V (ix3 b r n) = Spec.ex (Spec.Q x W1 B1 W2 B2 b) (Spec.sels x W1 B1 W2 B2 Table.idx b) scale r n := by
  unfold res_main_v81; clean_types; pointwise
  simp only [v73_at h, Consts.bot]
  rw [max_eq_right bot_le]
  rfl

end Cert.ReferenceIdeal.Stage

end
-- ==== Proof.RScan.lean ====
/- The reference's window sum read at an index: the sum of the entries up to and including it. -/
module

public import proofs.«01_k».proof.Proof.Gen.ReferenceIdeal
public import Idealize.ShloMosaic.Lib.Pointwise

@[expose] public section

set_option maxRecDepth 16384

noncomputable section

namespace Cert.ReferenceIdeal.Stage

open Idealize.ShloMosaic Idealize.SL.Sem Cert.ReferenceIdeal Cert.ReferenceIdeal.Gen

/-- A left fold that adds one term a step is the initial value plus their sum. -/
theorem foldl_add {N : ℕ} (f : Fin N → EReal) (v : EReal) : (List.finRange N).foldl (fun r n => r + f n) v = v + ∑ n, f n := by
  have e : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [e, ← List.ofFn_eq_map, List.sum_ofFn]

/-- A window sum is the sum over the window of `g`, where `g` is the operand's entry inside the operand and zero outside. -/
theorem window_at {s t u : Shape} (window strides lo hi : Fin s.rank → Nat) (q : FVec Ideal s .f32) (init : FVec Ideal u .f32)
    (h : s.ReduceWindows window strides lo hi t) (hu : 0 < u.numel) (z : init (Shape.Idx.first hu) = 0) (j : t.Idx)
    (p : (⟨s.rank, window⟩ : Shape).Idx → Fin s.rank → Nat) (hp : ∀ w a, p w a = (j (a.cast h.1.symm)).val * strides a + (w a).val)
    (g : (⟨s.rank, window⟩ : Shape).Idx → EReal)
    (inside : ∀ w (hin : ∀ a, lo a ≤ p w a ∧ p w a - lo a < s.size a), g w = q fun a => ⟨p w a - lo a, (hin a).2⟩)
    (outside : ∀ w, ¬ (∀ a, lo a ≤ p w a ∧ p w a - lo a < s.size a) → g w = 0) :
    Host.reduceWindowAdd window strides lo hi q init h hu j = ∑ w, g w := by
  show FloatOps.hostReduceWindowAdd window strides lo hi h .single q (init (Shape.Idx.first hu)) j = _
  rw [Ideal.hostReduceWindowAdd_def, z]
  unfold Ideal.hostReduceWindowAdd Host.reduceWindow
  dsimp only
  rw [foldl_add, zero_add, ← Equiv.sum_comp (⟨s.rank, window⟩ : Shape).rowMajor.symm g]
  refine Finset.sum_congr rfl fun n _ => ?_
  obtain rfl : p = fun w a => (j (a.cast h.1.symm)).val * strides a + (w a).val := funext fun w => funext fun a => hp w a
  split
  · rename_i hin
    exact (inside _ hin).symm
  · rename_i hin
    exact (outside _ hin).symm

/-- The window's shape. -/
abbrev Win : Shape := ⟨3, ![1, 1024, 1]⟩

/-- The running sums over the positions. -/
theorem window_sum (q : FVec Ideal S4x1024x64 .f32) (init : FVec Ideal S_ .f32) (hi : init (Shape.Idx.first h_S_) = 0)
    (b : Fin 4) (n : Fin 1024) (k : Fin 64) :
    Host.reduceWindowAdd ![1, 1024, 1] ![1, 1, 1] ![0, 1023, 0] ![0, 0, 0] q init reduceWindows_S4x1024x64_S4x1024x64_w1s1p0_0_w1024s1p1023_0_w1s1p0_0 h_S_ (ix3 b n k)
      = ∑ m ∈ Finset.univ.filter (· ≤ n), q (ix3 b m k) := by
  rw [window_at (s := S4x1024x64) (t := S4x1024x64) (u := S_) ![1, 1024, 1] ![1, 1, 1] ![0, 1023, 0] ![0, 0, 0] q init _ _ hi (ix3 b n k)
    (fun w => ![b.val + (w 0).val, n.val + (w 1).val, k.val + (w 2).val]) ?_
    (fun w : Win.Idx => if 1023 ≤ n.val + (w 1).val then q (ix3 b ⟨(n.val + (w 1).val - 1023) % 1024, Nat.mod_lt _ (by decide)⟩ k) else 0) ?_ ?_]
  rotate_left
  · intro w a
    match a with
    | ⟨0, _⟩ => show b.val + (w 0).val = b.val * 1 + (w 0).val; omega
    | ⟨1, _⟩ => show n.val + (w 1).val = n.val * 1 + (w 1).val; omega
    | ⟨2, _⟩ => show k.val + (w 2).val = k.val * 1 + (w 2).val; omega
  · intro w hin
    have w0 : (w 0).val < 1 := (w 0).isLt
    have w2 : (w 2).val < 1 := (w 2).isLt
    have h1 : 1023 ≤ n.val + (w 1).val ∧ n.val + (w 1).val - 1023 < 1024 := hin 1
    rw [if_pos h1.1]
    refine congrArg q (funext fun a => Fin.ext ?_)
    match a with
    | ⟨0, _⟩ => show b.val = b.val + (w 0).val - 0; omega
    | ⟨1, _⟩ => show (n.val + (w 1).val - 1023) % 1024 = n.val + (w 1).val - 1023; omega
    | ⟨2, _⟩ => show k.val = k.val + (w 2).val - 0; omega
  · intro w hin
    have w0 : (w 0).val < 1 := (w 0).isLt
    have w1 : (w 1).val < 1024 := (w 1).isLt
    have w2 : (w 2).val < 1 := (w 2).isLt
    refine if_neg fun hc => hin fun a => ?_
    match a with
    | ⟨0, _⟩ => show 0 ≤ b.val + (w 0).val ∧ b.val + (w 0).val - 0 < 4; omega
    | ⟨1, _⟩ => show 1023 ≤ n.val + (w 1).val ∧ n.val + (w 1).val - 1023 < 1024; omega
    | ⟨2, _⟩ => show 0 ≤ k.val + (w 2).val ∧ k.val + (w 2).val - 0 < 64; omega
  rw [← Finset.sum_filter]
  refine Finset.sum_nbij' (fun w => ⟨(n.val + (w 1).val - 1023) % 1024, Nat.mod_lt _ (by decide)⟩)
    (fun m => ix3 0 ⟨(1023 + m.val - n.val) % 1024, Nat.mod_lt _ (by decide)⟩ 0) ?_ ?_ ?_ ?_ ?_
  · intro w hw
    have w1 : (w 1).val < 1024 := (w 1).isLt
    simp only [Finset.mem_filter, Finset.mem_univ, true_and, Fin.le_def] at hw ⊢
    omega
  · intro m hm
    simp only [Finset.mem_filter, Finset.mem_univ, true_and, Fin.le_def] at hm ⊢
    show 1023 ≤ n.val + (1023 + m.val - n.val) % 1024
    omega
  · intro w hw
    have w0 : (w 0).val < 1 := (w 0).isLt
    have w1 : (w 1).val < 1024 := (w 1).isLt
    have w2 : (w 2).val < 1 := (w 2).isLt
    simp only [Finset.mem_filter, Finset.mem_univ, true_and] at hw
    funext a
    apply Fin.ext
    match a with
    | ⟨0, _⟩ => show 0 = (w 0).val; omega
    | ⟨1, _⟩ => show (1023 + (n.val + (w 1).val - 1023) % 1024 - n.val) % 1024 = (w 1).val; omega
    | ⟨2, _⟩ => show 0 = (w 2).val; omega
  · intro m hm
    simp only [Finset.mem_filter, Finset.mem_univ, true_and, Fin.le_def] at hm
    apply Fin.ext
    show (n.val + (1023 + m.val - n.val) % 1024 - 1023) % 1024 = m.val
    omega
  · intro w _
    rfl

end Cert.ReferenceIdeal.Stage

end
-- ==== Proof.RScatter.lean ====
/- The reference's scatter read at an index: the update where a selected position is hit, the operand elsewhere. -/
module

public import proofs.«01_k».proof.Proof.Gen.ReferenceIdeal
public import Idealize.ShloMosaic.Lib.Routing.OpsSet
public import Idealize.ShloMosaic.Lib.StableHlo.Predicate
public import Idealize.ShloMosaic.Lib.Pointwise

@[expose] public section

set_option maxRecDepth 16384

noncomputable section

namespace Cert.ReferenceIdeal.Stage

open Idealize.ShloMosaic Idealize.SL.Sem Cert.ReferenceIdeal Cert.ReferenceIdeal.Gen

section lands
variable (idx : IVec S4x10x2 32) (b : Fin 4) (r : Fin 10) (k : Fin 64)

theorem start_batch : ScatterDims.start scatter_S4x1024x64_S4x10x2_S4x10x64_2_01_01_2 (ix3 b r k) idx 0 = (idx (ix3 b r 0)).toInt := by
  have hm : (0 : Fin 3) ∈ ScatterDims.scatterDimsToOperandDims scatter_S4x1024x64_S4x10x2_S4x10x64_2_01_01_2 := by decide
  unfold ScatterDims.start
  rw [dif_pos hm]
  refine congrArg (fun i => (idx i).toInt) (funext fun a => Fin.ext ?_)
  match a with
  | ⟨0, _⟩ => rfl
  | ⟨1, _⟩ => rfl
  | ⟨2, _⟩ => rfl

theorem start_position : ScatterDims.start scatter_S4x1024x64_S4x10x2_S4x10x64_2_01_01_2 (ix3 b r k) idx 1 = (idx (ix3 b r 1)).toInt := by
  have hm : (1 : Fin 3) ∈ ScatterDims.scatterDimsToOperandDims scatter_S4x1024x64_S4x10x2_S4x10x64_2_01_01_2 := by decide
  unfold ScatterDims.start
  rw [dif_pos hm]
  refine congrArg (fun i => (idx i).toInt) (funext fun a => Fin.ext ?_)
  match a with
  | ⟨0, _⟩ => rfl
  | ⟨1, _⟩ => rfl
  | ⟨2, _⟩ => rfl

theorem start_channel : ScatterDims.start scatter_S4x1024x64_S4x10x2_S4x10x64_2_01_01_2 (ix3 b r k) idx 2 = 0 := by
  have hm : (2 : Fin 3) ∉ ScatterDims.scatterDimsToOperandDims scatter_S4x1024x64_S4x10x2_S4x10x64_2_01_01_2 := by decide
  unfold ScatterDims.start
  rw [dif_neg hm]

theorem window_batch : ScatterDims.window scatter_S4x1024x64_S4x10x2_S4x10x64_2_01_01_2 (ix3 b r k) 0 = 0 := by
  have hm : (0 : Fin 3) ∉ ScatterDims.sKept scatter_S4x1024x64_S4x10x2_S4x10x64_2_01_01_2 := by decide
  unfold ScatterDims.window
  rw [dif_neg hm]

theorem window_position : ScatterDims.window scatter_S4x1024x64_S4x10x2_S4x10x64_2_01_01_2 (ix3 b r k) 1 = 0 := by
  have hm : (1 : Fin 3) ∉ ScatterDims.sKept scatter_S4x1024x64_S4x10x2_S4x10x64_2_01_01_2 := by decide
  unfold ScatterDims.window
  rw [dif_neg hm]

theorem window_channel : ScatterDims.window scatter_S4x1024x64_S4x10x2_S4x10x64_2_01_01_2 (ix3 b r k) 2 = k.val := by
  have hm : (2 : Fin 3) ∈ ScatterDims.sKept scatter_S4x1024x64_S4x10x2_S4x10x64_2_01_01_2 := by decide
  unfold ScatterDims.window
  rw [dif_pos hm]
  rfl

/-- Update `(b, r, k)` lands at batch `b`, the selected position and channel `k`. -/
theorem lands_iff (sel : Fin 4 → Fin 10 → Fin 1024) (h0 : ∀ b r, idx (ix3 b r 0) = BitVec.ofNat 32 b.val)
    (h1 : ∀ b r, idx (ix3 b r 1) = BitVec.ofNat 32 (sel b r).val) (b' : Fin 4) (n : Fin 1024) (k' : Fin 64) :
    ScatterDims.resultIdx? scatter_S4x1024x64_S4x10x2_S4x10x64_2_01_01_2 (ix3 b r k) idx = some (ix3 b' n k') ↔ b = b' ∧ sel b r = n ∧ k = k' := by
  rw [Routing.resultIdx?_eq_some]
  have s0 := start_batch idx b r k
  have s1 := start_position idx b r k
  rw [h0, StableHlo.Predicate.toInt_ofNat_small b.val (by omega)] at s0
  rw [h1, StableHlo.Predicate.toInt_ofNat_small (sel b r).val (by omega)] at s1
  have s2 := start_channel idx b r k
  constructor
  · intro h
    have e0 : _ = (b'.val : Int) := h 0
    have e1 : _ = (n.val : Int) := h 1
    have e2 : _ = (k'.val : Int) := h 2
    rw [s0, window_batch] at e0
    rw [s1, window_position] at e1
    rw [s2, window_channel] at e2
    exact ⟨Fin.ext (by omega), Fin.ext (by omega), Fin.ext (by omega)⟩
  · rintro ⟨rfl, e, rfl⟩ a
    match a with
    | ⟨0, _⟩ => exact (congrArg₂ (fun (u : Int) (v : Nat) => u + (v : Int)) s0 (window_batch b r k)).trans (by simp)
    | ⟨1, _⟩ => exact (congrArg₂ (fun (u : Int) (v : Nat) => u + (v : Int)) s1 (window_position b r k)).trans (by simp [e])
    | ⟨2, _⟩ => exact (congrArg₂ (fun (u : Int) (v : Nat) => u + (v : Int)) s2 (window_channel b r k)).trans (by simp)

end lands

section set
variable {α : Type} (x0 : S4x1024x64.Idx → α) (idx : IVec S4x10x2 32) (upd : S4x10x64.Idx → α) (sel : Fin 4 → Fin 10 → Fin 1024)
  (h0 : ∀ b r, idx (ix3 b r 0) = BitVec.ofNat 32 b.val) (h1 : ∀ b r, idx (ix3 b r 1) = BitVec.ofNat 32 (sel b r).val)
include h0 h1

/-- At a selected position the scatter leaves that selection's update. -/
theorem scatter_sel (b : Fin 4) (hs : Function.Injective (sel b)) (r : Fin 10) (k : Fin 64) :
    Host.scatter scatter_S4x1024x64_S4x10x2_S4x10x64_2_01_01_2 (fun _ v => v) x0 idx upd (ix3 b (sel b r) k) = upd (ix3 b r k) := by
  refine Routing.scatter_set_hit _ x0 idx upd _ _ ?_ (ix3 b r k) ((lands_iff idx b r k sel h0 h1 b _ k).mpr ⟨rfl, rfl, rfl⟩)
  intro j hj
  obtain ⟨b', r', k', rfl⟩ : ∃ b' r' k', j = ix3 b' r' k' := ⟨j 0, j 1, j 2, by funext a; fin_cases a <;> rfl⟩
  obtain ⟨rfl, e, rfl⟩ := (lands_iff idx b' r' k' sel h0 h1 b _ k).mp hj
  rw [hs e]

/-- Elsewhere it leaves the operand. -/
theorem scatter_other (b : Fin 4) (n : Fin 1024) (hn : ∀ r, sel b r ≠ n) (k : Fin 64) :
    Host.scatter scatter_S4x1024x64_S4x10x2_S4x10x64_2_01_01_2 (fun _ v => v) x0 idx upd (ix3 b n k) = x0 (ix3 b n k) := by
  refine Routing.scatter_set_miss _ x0 idx upd _ ?_
  intro j hj
  obtain ⟨b', r', k', rfl⟩ : ∃ b' r' k', j = ix3 b' r' k' := ⟨j 0, j 1, j 2, by funext a; fin_cases a <;> rfl⟩
  obtain ⟨rfl, e, rfl⟩ := (lands_iff idx b' r' k' sel h0 h1 b n k).mp hj
  exact hn r' e

end set

end Cert.ReferenceIdeal.Stage

end
-- ==== Proof.RFin.lean ====
/- The reference's result read at an index: with finite inputs, the gamma-weighted context of the batch's queries plus
   the input. -/
module

public import proofs.«01_k».proof.Proof.RSel
public import proofs.«01_k».proof.Proof.RScan
public import proofs.«01_k».proof.Proof.RScatter

@[expose] public section

set_option maxRecDepth 16384

noncomputable section

namespace Cert.ReferenceIdeal.Stage

open Idealize.ShloMosaic Idealize.SL.Sem Cert.ReferenceIdeal Cert.ReferenceIdeal.Value

section places
variable (w : IVec S4x1 32) (i : IVec S4x10 32) (b : Fin 4) (r : Fin 10)

/-- An update's batch. -/
theorem places_batch (hw : ∀ b, w (ix2 b 0) = BitVec.ofNat 32 b.val) : places w i (ix3 b r 0) = BitVec.ofNat 32 b.val := by
  have e : IntOp.cmpi .slt (BitVec.ofNat 32 b.val) 0#32 = 0#1 := position_slt (b.castLE (by decide))
  pointwise [places]
  rw [hw, e]
  rfl

/-- An update's position. -/
theorem places_position (sel : Fin 4 → Fin 10 → Fin 1024) (hi : ∀ b r, i (ix2 b r) = BitVec.ofNat 32 (sel b r).val) :
    places w i (ix3 b r 1) = BitVec.ofNat 32 (sel b r).val := by
  pointwise [places]
  rw [hi, position_slt]
  rfl
end places

/-- The result, from the context. -/
theorem result_at (g : FVec Ideal S1 .f32) (C : FVec Ideal S4x1024x64 .f32) (X : FVec Ideal S4x64x1024 .f32) (b : Fin 4) (k : Fin 64) (n : Fin 1024) :
    result g C X (ix3 b k n) = g (ix1 0) * C (ix3 b n k) + X (ix3 b k n) := by
  pointwise [result]

variable {V : Valuation τ sig (Elt Ideal)} {x : Fin 4 → Fin 64 → Fin 1024 → ℝ} {W1 : Fin 64 → Fin 8 → ℝ} {B1 : Fin 8 → ℝ} {W2 : Fin 8 → Fin 64 → ℝ} {B2 : Fin 64 → ℝ}

/-- The batches' numbers, as words. -/
theorem v88_at (b : Fin 4) : res_main_v88 V (ix2 b 0) = BitVec.ofNat 32 b.val := by
  unfold res_main_v88; clean_types; pointwise

variable (h : Holds V x W1 B1 W2 B2)
include h

/-- The running sums. -/
theorem sums_at (b : Fin 4) (n : Fin 1024) (k : Fin 64) : sums (res_main_v56 V) (ix3 b n k) = Spec.run (Spec.Q x W1 B1 W2 B2 b) k n := by
  unfold sums
  refine (window_sum _ _ ?_ b n k).trans (Finset.sum_congr rfl fun m _ => v56_at h b m k)
  pointwise

/-- The new values of the selected positions. -/
theorem updates_at (b : Fin 4) (r : Fin 10) (k : Fin 64) :
    updates (res_main_v81 V) (res_main_v56 V) (ix3 b r k) = Spec.upd (Spec.Q x W1 B1 W2 B2 b) (Spec.sels x W1 B1 W2 B2 Table.idx b) scale k r := by
  pointwise [updates]
  simp only [v81_at h, v56_at h]
  exact Finset.sum_congr rfl fun m _ => mul_comm _ _

/-- The context. -/
theorem merged_at (b : Fin 4) (n : Fin 1024) (k : Fin 64) :
    merged (sums (res_main_v56 V)) (places (res_main_v88 V) (res_main_indices V)) (updates (res_main_v81 V) (res_main_v56 V)) (ix3 b n k)
      = Spec.context x W1 B1 W2 B2 Table.idx scale b k n := by
  unfold merged Spec.context
  have h0 : ∀ b r, places (res_main_v88 V) (res_main_indices V) (ix3 b r 0) = BitVec.ofNat 32 b.val :=
    fun b r => places_batch _ _ b r fun b => v88_at b
  have h1 : ∀ b r, places (res_main_v88 V) (res_main_indices V) (ix3 b r 1) = BitVec.ofNat 32 (Spec.sels x W1 B1 W2 B2 Table.idx b r).val :=
    fun b r => places_position _ _ b r _ (indices_at h)
  by_cases e : ∃ r, Spec.sels x W1 B1 W2 B2 Table.idx b r = n
  · obtain ⟨r, rfl⟩ := e
    rw [scatter_sel _ _ _ (Spec.sels x W1 B1 W2 B2 Table.idx) h0 h1 b (Spec.sels_inj x W1 B1 W2 B2 Table.idx b) r k, updates_at h,
      Spec.ctx_sel _ _ (Spec.sels_inj x W1 B1 W2 B2 Table.idx b)]
  · have e' : ∀ r, Spec.sels x W1 B1 W2 B2 Table.idx b r ≠ n := fun r q => e ⟨r, q⟩
    rw [scatter_other _ _ _ (Spec.sels x W1 B1 W2 B2 Table.idx) h0 h1 b n e' k, sums_at h, Spec.ctx_other _ _ _ _ _ e']

/-- The reference's result. -/
theorem value_at (g : FVec Ideal S1 .f32) (X : FVec Ideal S4x64x1024 .f32) (hg : V (Proc.devRef .tc main_arg5) = g) (hX : V (Proc.devRef .tc main_arg0) = X)
    (b : Fin 4) (k : Fin 64) (n : Fin 1024) :
    value V (ix3 b k n) = g (ix1 0) * Spec.context x W1 B1 W2 B2 Table.idx scale b k n + X (ix3 b k n) := by
  unfold value
  rw [result_at, merged_at h, hg, hX]

end Cert.ReferenceIdeal.Stage

end
-- ==== Proof.lean ====
/- The proof of the certificate's claims: the frames, the preservation, and the equality of the kernel's result and the
   reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_tame
public import proofs.«01_k».proof.Proof.Tame
public import proofs.«01_k».proof.Proof.KLink
public import proofs.«01_k».proof.Proof.RFin
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The reference leaves its arguments as they were, and declares no semaphore. -/
theorem quiet_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same under the precondition. -/
theorem quiet_reference_tame : Cert.quiescent_ReferenceIdeal_pre_tame := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two results are one array, on one device. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal_tame m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Stage.value (StableHlo.launchContents m' c) = (Cert.KernelIdeal.Gen.dats m 0 c).arrAt 7 Cert.KernelIdeal.cfg0.N := by
  obtain ⟨h0, h1, h2, h3, h4, h5⟩ := hpre c
  obtain ⟨x, W1, B1, W2, B2, hcol, hx, hW1, hB1, hW2, hB2⟩ := Cert.Tame.reals _ _ _ _ _ _ h0 h1 h2 h3 h4 h5
  have H : Cert.ReferenceIdeal.Stage.Holds (StableHlo.launchContents m' c) x W1 B1 W2 B2 :=
    ⟨hcol, fun b k n => (congrFun e0 _).trans (hx b k n), fun k j => (congrFun e1 _).trans (hW1 k j), fun j => (congrFun e2 _).trans (hB1 j),
      fun j k => (congrFun e3 _).trans (hW2 j k), fun k => (congrFun e4 _).trans (hB2 k)⟩
  refine Eq.trans ?_ (Cert.KernelIdeal.Stage.array_at m c _ _ rfl rfl hx hW1 hB1 hW2 hB2).symm
  funext y
  obtain ⟨b, k, n, rfl⟩ : ∃ b k n, y = (ix3 b k n : Cert.ReferenceIdeal.S4x64x1024.Idx) := ⟨y 0, y 1, y 2, by funext a; fin_cases a <;> rfl⟩
  exact Cert.ReferenceIdeal.Stage.value_at H _ _ e5 e0 b k n

/-- The kernel and the reference end with the same result, at every input that the precondition admits. -/
theorem algebraic : Cert.algebraic_KernelIdeal_ReferenceIdeal_pre_tame := by
  pair_intro
  · run_from Cert.KernelIdeal.Value.run_blocks m g
  · run_from Cert.ReferenceIdeal.Value.run m' g'
    obtain ⟨e0, e1, e2, e3, e4, e5⟩ := hagree c
    refine Eq.trans ?_ (results_agree m m' hpre c e0 e1 e2 e3 e4 e5)
    exact (congrArg₂ (fun u w => Cert.ReferenceIdeal.Stage.result u
      (Cert.ReferenceIdeal.Stage.merged (Cert.ReferenceIdeal.Stage.sums (Cert.ReferenceIdeal.Value.res_main_v56 (StableHlo.launchContents m' c)))
        (Cert.ReferenceIdeal.Stage.places (Cert.ReferenceIdeal.Value.res_main_v88 (StableHlo.launchContents m' c)) (Cert.ReferenceIdeal.Value.res_main_indices (StableHlo.launchContents m' c)))
        (Cert.ReferenceIdeal.Stage.updates (Cert.ReferenceIdeal.Value.res_main_v81 (StableHlo.launchContents m' c)) (Cert.ReferenceIdeal.Value.res_main_v56 (StableHlo.launchContents m' c)))) w)
      e5 e0).symm

/-- All the claims. -/
theorem claim : Cert.Claim :=
  ⟨Cert.Kernel.Gen.facts, Cert.KernelIdeal.Gen.facts, Cert.ReferenceIdeal.Gen.facts, Cert.Pre_tame.Gen.facts,
    fun m ρ _ => Cert.Kernel.Gen.frame m ρ, fun m ρ _ => Cert.KernelIdeal.Gen.frame m ρ,
    fun m ρ _ => Cert.KernelIdeal.Gen.frame m ρ, quiet_reference, quiet_reference_tame, trivial, algebraic⟩

end Cert.Proof

end
